-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![256, 512]⟩ ⟨2, ![256, 2048]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![2048, 256]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x512 : Shape := ⟨2, ![256, 512]⟩
abbrev S3x2x256x256 : Shape := ⟨4, ![3, 2, 256, 256]⟩
abbrev S3x3x2x256x256 : Shape := ⟨5, ![3, 3, 2, 256, 256]⟩
abbrev S3x3 : Shape := ⟨2, ![3, 3]⟩
abbrev S_ : Shape := ⟨0, ![]⟩
abbrev S256x256 : Shape := ⟨2, ![256, 256]⟩
abbrev S1x1x256x256 : Shape := ⟨4, ![1, 1, 256, 256]⟩
abbrev S1x1 : Shape := ⟨2, ![1, 1]⟩
abbrev S1x1x2x256x256 : Shape := ⟨5, ![1, 1, 2, 256, 256]⟩
abbrev S2x256x256 : Shape := ⟨3, ![2, 256, 256]⟩
abbrev S1x2x256x256 : Shape := ⟨4, ![1, 2, 256, 256]⟩
abbrev S512x512 : Shape := ⟨2, ![512, 512]⟩
abbrev S1x1x1x256x256 : Shape := ⟨5, ![1, 1, 1, 256, 256]⟩

abbrev nBuf : Space → Nat
  | .hbm => 8
  | .vmem => 12
  | .smem => 0
  | _ => 0

abbrev bufTy : (tb : Table) → Fin (tcTables nBuf tb) → BufTy
  | .hbm, ⟨0, _⟩ => ⟨S512x256, .f32⟩
  | .hbm, ⟨1, _⟩ => ⟨S256x512, .f32⟩
  | .hbm, ⟨2, _⟩ => ⟨S256x512, .f32⟩
  | .hbm, ⟨3, _⟩ => ⟨S256x512, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S512x256, .f32⟩
  | .local _ .vmem, ⟨1, _⟩ => ⟨S256x512, .f32⟩
  | .local _ .vmem, ⟨2, _⟩ => ⟨S512x256, .f32⟩
  | .local _ .vmem, ⟨3, _⟩ => ⟨S256x512, .f32⟩
  | .local _ .vmem, ⟨4, _⟩ => ⟨S512x256, .f32⟩
  | .local _ .vmem, ⟨5, _⟩ => ⟨S256x512, .f32⟩
  | .local _ .vmem, ⟨6, _⟩ => ⟨S512x256, .f32⟩
  | .local _ .vmem, ⟨7, _⟩ => ⟨S512x256, .f32⟩
  | .local _ .vmem, ⟨8, _⟩ => ⟨S3x2x256x256, .bf16⟩
  | .local _ .vmem, ⟨9, _⟩ => ⟨S3x2x256x256, .bf16⟩
  | .local _ .vmem, ⟨10, _⟩ => ⟨S3x3x2x256x256, .bf16⟩
  | .local _ .vmem, ⟨11, _⟩ => ⟨S3x3x2x256x256, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  (ofTc nBuf bufTy 1 44 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_dev3 (d0 : Dev nD) : Nat :=
  let c0_i32_39 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_38 : BitVec 32 := 1#32
  let v37 : BitVec 32 := Scalar.muli v7 c1_i32_38
  let v38 : BitVec 32 := Scalar.addi c0_i32_39 v37
  v38.toNat
def k0_dev4 (d0 : Dev nD) : Nat :=
  let c0_i32_54 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_53 : BitVec 32 := 1#32
  let v47 : BitVec 32 := Scalar.muli v5 c1_i32_53
  let v48 : BitVec 32 := Scalar.addi c0_i32_54 v47
  v48.toNat
def k0_dev5 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_92 : BitVec 32 := 1#32
  let v81 : BitVec 32 := Scalar.muli v7 c1_i32_92
  let v82 : BitVec 32 := Scalar.addi c0_i32_93 v81
  v82.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_107 : BitVec 32 := 1#32
  let v91 : BitVec 32 := Scalar.muli v5 c1_i32_107
  let v92 : BitVec 32 := Scalar.addi c0_i32_108 v91
  v92.toNat
def k0_dev7 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_145 : BitVec 32 := 1#32
  let v125 : BitVec 32 := Scalar.muli v7 c1_i32_145
  let v126 : BitVec 32 := Scalar.addi c0_i32_146 v125
  v126.toNat
def k0_dev8 (d0 : Dev nD) : Nat :=
  let c0_i32_161 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_160 : BitVec 32 := 1#32
  let v135 : BitVec 32 := Scalar.muli v5 c1_i32_160
  let v136 : BitVec 32 := Scalar.addi c0_i32_161 v135
  v136.toNat
def k0_dev9 (d0 : Dev nD) : Nat :=
  let c0_i32_215 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_214 : BitVec 32 := 1#32
  let v175 : BitVec 32 := Scalar.muli v7 c1_i32_214
  let v176 : BitVec 32 := Scalar.addi c0_i32_215 v175
  v176.toNat
def k0_dev10 (d0 : Dev nD) : Nat :=
  let c0_i32_231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_230 : BitVec 32 := 1#32
  let v185 : BitVec 32 := Scalar.muli v5 c1_i32_230
  let v186 : BitVec 32 := Scalar.addi c0_i32_231 v185
  v186.toNat
def k0_dev11 (d0 : Dev nD) : Nat :=
  let c0_i32_303 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_302 : BitVec 32 := 1#32
  let v231 : BitVec 32 := Scalar.muli v7 c1_i32_302
  let v232 : BitVec 32 := Scalar.addi c0_i32_303 v231
  v232.toNat
def k0_dev12 (d0 : Dev nD) : Nat :=
  let c0_i32_319 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_318 : BitVec 32 := 1#32
  let v241 : BitVec 32 := Scalar.muli v5 c1_i32_318
  let v242 : BitVec 32 := Scalar.addi c0_i32_319 v241
  v242.toNat
def k0_dev13 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_364 : BitVec 32 := 1#32
  let v267 : BitVec 32 := Scalar.muli v7 c1_i32_364
  let v268 : BitVec 32 := Scalar.addi c0_i32_365 v267
  v268.toNat
def k0_dev14 (d0 : Dev nD) : Nat :=
  let c0_i32_381 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_380 : BitVec 32 := 1#32
  let v277 : BitVec 32 := Scalar.muli v5 c1_i32_380
  let v278 : BitVec 32 := Scalar.addi c0_i32_381 v277
  v278.toNat
def k0_dev15 (d0 : Dev nD) : Nat :=
  let c0_i32_429 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_428 : BitVec 32 := 1#32
  let v303 : BitVec 32 := Scalar.muli v7 c1_i32_428
  let v304 : BitVec 32 := Scalar.addi c0_i32_429 v303
  v304.toNat
def k0_dev16 (d0 : Dev nD) : Nat :=
  let c0_i32_445 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_444 : BitVec 32 := 1#32
  let v313 : BitVec 32 := Scalar.muli v5 c1_i32_444
  let v314 : BitVec 32 := Scalar.addi c0_i32_445 v313
  v314.toNat
def k0_dev17 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_518 : BitVec 32 := 1#32
  let v359 : BitVec 32 := Scalar.muli v7 c1_i32_518
  let v360 : BitVec 32 := Scalar.addi c0_i32_519 v359
  v360.toNat
def k0_dev18 (d0 : Dev nD) : Nat :=
  let c0_i32_535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_534 : BitVec 32 := 1#32
  let v369 : BitVec 32 := Scalar.muli v5 c1_i32_534
  let v370 : BitVec 32 := Scalar.addi c0_i32_535 v369
  v370.toNat
def k0_dev19 (d0 : Dev nD) : Nat :=
  let c0_i32_583 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_582 : BitVec 32 := 1#32
  let v395 : BitVec 32 := Scalar.muli v7 c1_i32_582
  let v396 : BitVec 32 := Scalar.addi c0_i32_583 v395
  v396.toNat
def k0_dev20 (d0 : Dev nD) : Nat :=
  let c0_i32_599 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_598 : BitVec 32 := 1#32
  let v405 : BitVec 32 := Scalar.muli v5 c1_i32_598
  let v406 : BitVec 32 := Scalar.addi c0_i32_599 v405
  v406.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S2048x256 : Shape := ⟨2, ![2048, 256]⟩
abbrev S256x2048 : Shape := ⟨2, ![256, 2048]⟩
abbrev S2048x2048 : Shape := ⟨2, ![2048, 2048]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S2048x256, .f32⟩
  | .hbm, ⟨5, _⟩ => ⟨S2048x256, .f32⟩
  | .hbm, ⟨6, _⟩ => ⟨S2048x256, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x256, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x256, .f32⟩
  | .hbm, ⟨17, _⟩ => ⟨S2048x2048, .f32⟩
  | .hbm, ⟨18, _⟩ => ⟨S_, .f32⟩
  | .hbm, ⟨19, _⟩ => ⟨S2048x2048, .f32⟩
  | .hbm, ⟨20, _⟩ => ⟨S2048x2048, .f32⟩
  | .hbm, ⟨21, _⟩ => ⟨S2048x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.Cells.lean ====
/-
# The two rings: memrefs, semaphores, contents and the schedule of their transfers

Each device packs its three layers' first weight halves into `packM true` and the second halves into `packM false`.
The `true` ring sends to the right neighbour, the `false` ring to the left one; a layer's pack makes three hops on each
ring. A hop is a `Slot`: the ring, the layer, the hop number. The copy of slot `s` reads `srcM s` on the sender (its own
pack at hop 0, the slot of the hop before otherwise) and fills `slotM s` on the receiver.

This file fixes what each semaphore's one round is worth and hands over.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Memref
public import Idealize.ShloMosaic.Lib.MemrefSat

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the staging pipeline's rounds and the rings' -/

/-- The rings' part of the resource algebra: rounds over all semaphores, two duties' names to a round. -/
abbrev UB : Type := URounds (GSem nD τ sig) Bool
/-- The staging's part and the rings' part together. -/
abbrev UU : Type := UR sig nD τ × UB

local notation "𝕄" => MT nD τ sig Unit (Elt F) ℕ UU ℕ

/-- The staging's part within the whole; -/
abbrev EP : Emb (UR sig nD τ) (MT nD τ sig Unit (Elt F) ℕ UU ℕ) := embL
/-- the rings' part within the whole. -/
abbrev ER : Emb UB (MT nD τ sig Unit (Elt F) ℕ UU ℕ) := embR

/-! ## The ring of four devices -/

set_option backward.proofsInPublic true in
/-- The right neighbour. -/
def nxt (c : Dev nD) : Dev nD := ⟨(c.val + 1) % 4, Nat.mod_lt _ (by decide)⟩
set_option backward.proofsInPublic true in
/-- The left neighbour. -/
def prv (c : Dev nD) : Dev nD := ⟨(c.val + 3) % 4, Nat.mod_lt _ (by decide)⟩

/-- The device ring `d` sends to, -/
def tgt : Bool → Dev nD → Dev nD | true => nxt | false => prv
/-- the device it receives from. -/
def org : Bool → Dev nD → Dev nD | true => prv | false => nxt

/-- The device that `c` receives from sends to `c`; -/
theorem tgt_org (d : Bool) (c : Dev nD) : tgt d (org d c) = c := by revert d c; decide
/-- the device that `c` sends to receives from `c`; -/
theorem org_tgt (d : Bool) (c : Dev nD) : org d (tgt d c) = c := by revert d c; decide
/-- the target on the other ring is the device received from on this one. -/
theorem tgt_not (d : Bool) (c : Dev nD) : tgt (!d) c = org d c := by revert d c; decide

/-- The device whose pack is at hop `h` of ring `d` when device `c` sends that hop. -/
def back (d : Bool) : ℕ → Dev nD → Dev nD
  | 0, c => c
  | h + 1, c => back d h (org d c)

/-! ## Slots -/

/-- A hop: the ring, the layer, the hop number. -/
abbrev Slot : Type := Bool × Fin 3 × Fin 3

/-- The order the kernel sends the hops in, and receives them in. -/
def order : List Slot :=
  [(true, 0, 0), (false, 0, 0), (true, 1, 0), (false, 1, 0), (true, 2, 0), (false, 2, 0),
   (true, 0, 1), (false, 0, 1), (true, 1, 1), (false, 1, 1), (true, 2, 1), (false, 2, 1),
   (true, 0, 2), (false, 0, 2), (true, 1, 2), (false, 1, 2), (true, 2, 2), (false, 2, 2)]
/-- The order it waits for the sends to have completed in. -/
def drain : List Slot :=
  [(true, 0, 0), (false, 0, 0), (true, 0, 1), (false, 0, 1), (true, 0, 2), (false, 0, 2),
   (true, 1, 0), (false, 1, 0), (true, 1, 1), (false, 1, 1), (true, 1, 2), (false, 1, 2),
   (true, 2, 0), (false, 2, 0), (true, 2, 1), (false, 2, 1), (true, 2, 2), (false, 2, 2)]
/-- A hop's place in `order`. -/
def place (s : Slot) : ℕ := 6 * s.2.2.val + 2 * s.2.1.val + (if s.1 then 0 else 1)

/-- Every hop is in `order`, -/
theorem order_univ : (Finset.univ : Finset Slot) = order.toFinset := by decide
/-- and none twice. -/
theorem order_nodup : order.Nodup := by decide
/-- Every hop is in `drain`, -/
theorem drain_univ : (Finset.univ : Finset Slot) = drain.toFinset := by decide
/-- and none twice. -/
theorem drain_nodup : drain.Nodup := by decide

/-! ## The memrefs -/

/-- Ring `d`'s packs (one per layer, the two weight halves of each); -/
abbrev packM : Bool → Memref sig .tc .vmem S3x2x256x256 .bf16
  | true => Memref.whole cc0_scratch0
  | false => Memref.whole cc0_scratch1
/-- its landing slots. -/
abbrev ringM : Bool → Memref sig .tc .vmem S3x3x2x256x256 .bf16
  | true => Memref.whole cc0_scratch2
  | false => Memref.whole cc0_scratch3

/-- A layer's pack lies within the buffer of packs; -/
theorem slab_inb (l : Fin 3) : ∀ a, (![l.val, 0, 0, 0] : Fin 4 → ℕ) a + S1x2x256x256.size a ≤ S3x2x256x256.size a := by
  revert l; decide
/-- a landing slot lies within the buffer of slots; -/
theorem slot_inb (l h : Fin 3) :
    ∀ a, (![l.val, h.val, 0, 0, 0] : Fin 5 → ℕ) a + S1x1x2x256x256.size a ≤ S3x3x2x256x256.size a := by
  revert l h; decide
/-- a hop's semaphore lies within its array of semaphores. -/
theorem sem_inb (l h : Fin 3) : ∀ a, (![l.val, h.val] : Fin 2 → ℕ) a + S1x1.size a ≤ S3x3.size a := by revert l h; decide

/-- The rectangle of layer `l`'s pack; -/
abbrev slabR (l : Fin 3) : Rect S3x2x256x256 := Rect.unit (s := S3x2x256x256) ![l.val, 0, 0, 0] S1x2x256x256.size (slab_inb l)
/-- the rectangle of a landing slot. -/
abbrev slotR (l h : Fin 3) : Rect S3x3x2x256x256 :=
  Rect.unit (s := S3x3x2x256x256) ![l.val, h.val, 0, 0, 0] S1x1x2x256x256.size (slot_inb l h)

/-- Layer `l`'s pack of ring `d`. -/
abbrev slabM (d : Bool) (l : Fin 3) : Memref sig .tc .vmem S2x256x256 .bf16 :=
  ((packM d).slice (slabR l) (fun _ => rfl)).squeeze S2x256x256 squeezes_S1x2x256x256_S2x256x256
/-- The landing slot of a hop. -/
abbrev slotM (s : Slot) : Memref sig .tc .vmem S2x256x256 .bf16 :=
  ((ringM s.1).slice (slotR s.2.1 s.2.2) (fun _ => rfl)).squeeze S2x256x256 squeezes_S1x1x2x256x256_S2x256x256
/-- What the copy of a hop reads. -/
abbrev srcM : Slot → Memref sig .tc .vmem S2x256x256 .bf16
  | (d, l, ⟨0, _⟩) => slabM d l
  | (d, l, ⟨h + 1, p⟩) => slotM (d, l, ⟨h, Nat.lt_of_succ_lt p⟩)

/-- The semaphores of the sends (`false`) and of the receives (`true`) of ring `d`. -/
abbrev semA : Bool → Bool → DmaSems sig S3x3
  | false, true => cc0_scratch4
  | true, true => cc0_scratch5
  | false, false => cc0_scratch6
  | true, false => cc0_scratch7

/-- A hop's semaphore: of its send (`false`), of its receipt (`true`). -/
abbrev xsem (b : Bool) (s : Slot) : DmaSem sig :=
  (((semA b s.1).slice (Rect.unit (s := S3x3) ![s.2.1.val, s.2.2.val] S1x1.size (sem_inb s.2.1 s.2.2))).squeeze S_ squeezes_S1x1_S_).sem

/-- Which hop's semaphore one of the kernel's own transfer semaphores is. -/
def decode (q : DmaSem sig) : Bool × Slot :=
  let k := q.val - 8
  (decide (k / 9 % 2 = 1), decide (k / 18 = 0), Fin.ofNat 3 (k % 9 / 3), Fin.ofNat 3 (k % 3))

/-- The number of a hop's semaphore: after the eight of the staging, four arrays of nine. -/
theorem xsem_val (b : Bool) (s : Slot) :
    (xsem b s).val = 8 + (if s.1 then 0 else 18) + (if b then 9 else 0) + 3 * s.2.1.val + s.2.2.val := by
  revert b s; decide

/-- `decode` finds the hop again. -/
theorem decode_xsem (b : Bool) (s : Slot) : decode (xsem b s) = (b, s) := by
  unfold decode; rw [xsem_val]; revert b s; decide

/-- The runtime's barrier semaphore. -/
abbrev barS : Sem sig := (SemArray.scalar (sig.barrier 0 rfl) : Sems sig S_).sem

/-- Device `c`'s barrier semaphore; -/
abbrev barCell (c : Dev nD) : GSem nD τ sig := ((c : Thread nD τ), .reg barS)
/-- its semaphore of a hop, of the send or of the receipt; -/
abbrev xCell (b : Bool) (c : Dev nD) (s : Slot) : GSem nD τ sig := ((c : Thread nD τ), .dma (xsem b s))
/-- of the send; -/
abbrev sendCell (c : Dev nD) (s : Slot) : GSem nD τ sig := xCell false c s
/-- of the receipt. -/
abbrev recvCell (c : Dev nD) (s : Slot) : GSem nD τ sig := xCell true c s

/-- What a hop's copy credits. -/
abbrev N : ℕ := (slotM (true, 0, 0)).view.dmaCredit
/-- A copy credits something, -/
theorem N_pos : 0 < N := View.dmaCredit_pos _ (by decide)
/-- every slot as much as every other, -/
theorem slot_credit (s : Slot) : (slotM s).view.dmaCredit = N := by
  rcases s with ⟨d, l, h⟩; cases d <;> rfl
/-- and its source the same. -/
theorem src_credit (s : Slot) : (srcM s).view.dmaCredit = N := by
  rcases s with ⟨d, l, ⟨_ | h, p⟩⟩ <;> cases d <;> rfl

end Cert.Rings

end
-- ==== Proof.Sched.lean ====
/-
# What the rings carry, and the schedule of their semaphores

The contents of each pack as a function of the staged weights, what each hop sends and lands, and the one round of every
semaphore: whose duty it is, what it is worth and what it hands over.
-/
module

public import proofs.«01_k».proof.Proof.Cells

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s activations as staged; -/
def xC (c : Dev nD) : S512x256.Idx → Elt F .f32 := (win0_0.blk (0 : Fin 1)).view.read (Elt F) (m ((c : Thread nD τ).loc main_arg0))
/-- its first weights of each layer; -/
def winC (c : Dev nD) : Fin 3 → S256x512.Idx → Elt F .f32
  | 0 => (win0_1.blk (0 : Fin 1)).view.read (Elt F) (m ((c : Thread nD τ).loc main_arg1))
  | 1 => (win0_3.blk (0 : Fin 1)).view.read (Elt F) (m ((c : Thread nD τ).loc main_arg2))
  | 2 => (win0_5.blk (0 : Fin 1)).view.read (Elt F) (m ((c : Thread nD τ).loc main_arg3))
/-- its second weights of each layer. -/
def woutC (c : Dev nD) : Fin 3 → S512x256.Idx → Elt F .f32
  | 0 => (win0_2.blk (0 : Fin 1)).view.read (Elt F) (m ((c : Thread nD τ).loc main_arg4))
  | 1 => (win0_4.blk (0 : Fin 1)).view.read (Elt F) (m ((c : Thread nD τ).loc main_arg5))
  | 2 => (win0_6.blk (0 : Fin 1)).view.read (Elt F) (m ((c : Thread nD τ).loc main_arg6))

/-- The columns of the first weights ring `d` carries, -/
abbrev inR : Bool → Rect S256x512
  | true => Rect.unit (s := S256x512) ![0, 0] S256x256.size inb_S256x512_S256x256_0_0
  | false => Rect.unit (s := S256x512) ![0, 256] S256x256.size inb_S256x512_S256x256_0_256
/-- the rows of the second weights. -/
abbrev outR : Bool → Rect S512x256
  | true => Rect.unit (s := S512x256) ![0, 0] S256x256.size inb_S512x256_S256x256_0_0
  | false => Rect.unit (s := S512x256) ![256, 0] S256x256.size inb_S512x256_S256x256_256_0

/-- A half of the first weights, -/
def inHalf (w : S256x512.Idx → Elt F .f32) : Bool → S256x256.Idx → Elt F .f32
  | true => fun i => w ((inR true).emb i)
  | false => fun i => w ((inR false).emb i)
/-- and of the second. -/
def outHalf (w : S512x256.Idx → Elt F .f32) : Bool → S256x256.Idx → Elt F .f32
  | true => fun i => w ((outR true).emb i)
  | false => fun i => w ((outR false).emb i)

/-- The index of a 256 × 256 block stored as one row of a pack. -/
def rowIdx (i : S2x256x256.Idx) : S1x1x256x256.Idx := fun
  | 0 => ⟨0, Nat.one_pos⟩
  | 1 => ⟨0, Nat.one_pos⟩
  | 2 => i 1
  | 3 => i 2
/-- `X` with its row `k` replaced by the block `v`. -/
def setRow (X : S2x256x256.Idx → Elt F .bf16) (k : Fin 2) (v : S1x1x256x256.Idx → Elt F .bf16) : S2x256x256.Idx → Elt F .bf16 :=
  fun i => if (i 0).val = k.val then v (rowIdx i) else X i
/-- The index in a pack of an element of its row `k`. -/
def slabIdx (k : Fin 2) (j : S1x1x1x256x256.Idx) : S2x256x256.Idx := fun
  | 0 => k
  | 1 => j 3
  | 2 => j 4
/-- Row `k` of a pack. -/
def row (X : S2x256x256.Idx → Elt F .bf16) (k : Fin 2) : S1x1x1x256x256.Idx → Elt F .bf16 := fun j => X (slabIdx k j)

/-- The pack of two blocks. -/
def pair (u v : S1x1x256x256.Idx → Elt F .bf16) : S2x256x256.Idx → Elt F .bf16 := fun i => if (i 0).val = 0 then u (rowIdx i) else v (rowIdx i)

omit [FloatOps F] in
/-- A pack whose two rows have been set holds the two blocks. -/
theorem setRow_setRow (X : S2x256x256.Idx → Elt F .bf16) (u v : S1x1x256x256.Idx → Elt F .bf16) :
    setRow (setRow X 0 u) 1 v = pair u v := by
  funext i
  unfold setRow pair
  have h : (i 0).val = 0 ∨ (i 0).val = 1 := by
    have : ∀ a : Fin 2, a.val = 0 ∨ a.val = 1 := by decide
    exact this (i 0)
  rcases h with h | h
  · exact (if_neg (by rw [h]; decide)).trans ((if_pos h).trans (if_pos h).symm)
  · exact (if_pos h).trans (if_neg (by rw [h]; decide)).symm

/-- Device `c`'s pack of layer `l` for ring `d`. -/
def packV (c : Dev nD) (d : Bool) (l : Fin 3) : S2x256x256.Idx → Elt F .bf16 :=
  pair (k0_pay1 (inHalf (winC m c l) d)) (k0_pay1 (outHalf (woutC m c l) d))

/-- What device `c` sends at a hop: the pack of the device as many steps behind on the ring; -/
def sendV (c : Dev nD) (s : Slot) : S2x256x256.Idx → Elt F .bf16 := packV m (back s.1 s.2.2.val c) s.1 s.2.1
/-- what lands in its slot: what its origin on the ring sent. -/
def landV (c : Dev nD) (s : Slot) : S2x256x256.Idx → Elt F .bf16 := sendV m (org s.1 c) s

/-- The share of its source a hop's copy holds: a pack whole, a slot's left half. -/
def srcShare : Slot → PosShare TreeShare
  | (_, _, ⟨0, _⟩) => fullShare
  | (_, _, ⟨_ + 1, _⟩) => fullShare.left

/-! ## The schedule -/

/-- All landing slots of ring `d` on device `c`, at any contents. -/
def slotsAny (c : Dev nD) (d : Bool) : sProp 𝕄 :=
  bigSep Finset.univ fun lh : Fin 3 × Fin 3 => iprop(∃ X, owns (c : Thread nD τ) (slotM (d, lh)) fullShare X)
/-- What the signal of `tgt d c` to `c`'s barrier hands over: its landing slots of ring `d`, for `c`'s copies. -/
def barPay (c : Dev nD) (d : Bool) : sProp 𝕄 := slotsAny (tgt d c) d
/-- What a copy landed in a slot hands over. -/
def recvPay (c : Dev nD) (s : Slot) : sProp 𝕄 := owns (c : Thread nD τ) (slotM s) fullShare (landV m c s)
/-- What a completed send hands back. -/
def sendPay (c : Dev nD) (s : Slot) : sProp 𝕄 := owns (c : Thread nD τ) (srcM s) (srcShare s) (sendV m c s)

/-- `g` is a barrier semaphore; -/
abbrev IsBar (g : GSem nD τ sig) : Prop := g.1.2 = .tc ∧ g.2 = .reg barS
/-- `g` is one of the rings' transfer semaphores. -/
abbrev IsXfer (g : GSem nD τ sig) : Prop := g.1.2 = .tc ∧ ∃ q : DmaSem sig, g.2 = .dma q

open Classical in
/-- One round. The barrier of `c` has two duties, `d` paid by `tgt d c`, one unit each; a transfer semaphore one duty. -/
def ringRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    match g.2 with
    | .reg _ => barPay g.1.1 d
    | .dma q => if (decode q).1 then recvPay m g.1.1 (decode q).2 else sendPay m g.1.1 (decode q).2
  amount_pos g _ _ _ := by
    by_cases h : g.2 = .reg barS
    · rw [if_pos h]; exact Nat.one_pos
    · rw [if_neg h]; exact N_pos

omit [FloatOps F] in
/-- Landing slots may be handed over through a cell; -/
instance slotsAny_storable (c : Dev nD) (d : Bool) : BI.Storable (upEmb : UEmb _ 𝕄) (slotsAny (F := F) c d) := by
  unfold slotsAny; infer_instance

/-- so may all that the schedule hands over. -/
instance ringRd_payload_storable (g : GSem nD τ sig) (r : ℕ) (d : Bool) : BI.Storable (upEmb : UEmb _ 𝕄) ((ringRd m).payload g r d) := by
  obtain ⟨⟨c, u⟩, sm⟩ := g
  cases sm with
  | reg q => show BI.Storable upEmb (barPay (F := F) c d); unfold barPay; infer_instance
  | dma q =>
    show BI.Storable upEmb (if (decode q).1 then recvPay m c (decode q).2 else sendPay m c (decode q).2)
    unfold recvPay sendPay
    split <;> infer_instance

section Sched
variable (c : Dev nD) (s : Slot) (b : Bool)

/-- A transfer semaphore is not the barrier, -/
theorem dma_ne_bar (q : DmaSem sig) : (SemLoc.dma q : SemLoc sig) ≠ .reg barS := fun h => by cases h
/-- nor is a hop's cell. -/
theorem not_bar_x : ¬ IsBar (xCell b c s) := fun h => dma_ne_bar _ h.2

/-- The barrier's round has both duties, -/
theorem duties_bar : (ringRd m).duties (barCell c) 0 = Finset.univ := by dsimp only [ringRd]; exact if_pos ⟨rfl, rfl, rfl⟩
/-- a hop's cell has one, -/
theorem duties_x : (ringRd m).duties (xCell b c s) 0 = {false} := by
  dsimp only [ringRd]; rw [if_neg (fun h => not_bar_x c s b h.2)]; exact if_pos ⟨rfl, rfl, _, rfl⟩
/-- and no later round has any. -/
theorem duties_later (g : GSem nD τ sig) : ∀ r, 1 ≤ r → (ringRd m).duties g r = ∅ :=
  fun r hr => by dsimp only [ringRd]; rw [if_neg fun h => by omega, if_neg fun h => by omega]

/-- A signal is one unit, -/
theorem amount_bar (d : Bool) : (ringRd m).amount (barCell c) 0 d = 1 := by dsimp only [ringRd]; exact if_pos rfl
/-- a copy `N`; -/
theorem amount_x (d : Bool) : (ringRd m).amount (xCell b c s) 0 d = N := by dsimp only [ringRd]; exact if_neg (dma_ne_bar _)

/-- so a barrier expects two units, -/
theorem expect_bar : (ringRd m).expect (barCell c) 0 = 2 := by
  unfold Schedule.expect Schedule.amountOf
  rw [duties_bar, Finset.sum_congr rfl fun d _ => amount_bar m c d, Finset.sum_const, Finset.card_univ, Fintype.card_bool, smul_eq_mul]
/-- a hop's cell `N`. -/
theorem expect_x : (ringRd m).expect (xCell b c s) 0 = N := by
  unfold Schedule.expect Schedule.amountOf; rw [duties_x, Finset.sum_singleton, amount_x]

/-- A signal hands over the neighbour's slots, -/
theorem payload_bar (d : Bool) : (ringRd m).payload (barCell c) 0 d = barPay c d := rfl
/-- a receipt the slot filled, -/
theorem payload_recv (d : Bool) : (ringRd m).payload (recvCell c s) 0 d = recvPay m c s := by
  show (if (decode (xsem true s)).1 then recvPay m c (decode (xsem true s)).2 else sendPay m c (decode (xsem true s)).2) = _
  rw [decode_xsem, if_pos rfl]
/-- a completed send its source. -/
theorem payload_send (d : Bool) : (ringRd m).payload (sendCell c s) 0 d = sendPay m c s := by
  show (if (decode (xsem false s)).1 then recvPay m c (decode (xsem false s)).2 else sendPay m c (decode (xsem false s)).2) = _
  rw [decode_xsem, if_neg Bool.false_ne_true]

/-- The rest of the barrier's round, no duty taken: both neighbours' landing slots. -/
theorem rest_bar : bigSep ((ringRd m).duties (barCell c) 0 \ ∅) (fun d => (ringRd m).payload (barCell c) 0 d)
    = iprop(barPay c true ∗ barPay c false) := by
  rw [Finset.sdiff_empty, duties_bar, bigSep_univ_eq_bigSepL [true, false] (by decide) (by decide), bigSepL_cons_cons, bigSepL_singleton]
  rfl
/-- All that a receive cell's round hands over is the slot filled; -/
theorem rest_recv : bigSep ((ringRd m).duties (recvCell c s) 0 \ ∅) (fun d => (ringRd m).payload (recvCell c s) 0 d) = recvPay m c s := by
  rw [Finset.sdiff_empty, duties_x, bigSep_singleton, payload_recv]
/-- all that a send cell's hands over is the source. -/
theorem rest_send : bigSep ((ringRd m).duties (sendCell c s) 0 \ ∅) (fun d => (ringRd m).payload (sendCell c s) 0 d) = sendPay m c s := by
  rw [Finset.sdiff_empty, duties_x, bigSep_singleton, payload_send]

end Sched

/-! ## What each device owes at launch; the levels -/

/-- Device `c` owes, for each hop of the list, its copy's credit to its target's receive semaphore. -/
def owedL (c : Dev nD) : List Slot → CellTallies nD τ sig Unit
  | [] => 0
  | s :: t => owedL c t + tallyAt (recvCell (tgt s.1 c) s) () N

/-- After the first signal: the hops, and the right neighbour's barrier unit; -/
def O₁ (c : Dev nD) : CellTallies nD τ sig Unit := owedL c order + tallyAt (barCell (nxt c)) () 1
/-- at launch also the left neighbour's. -/
def O₀ (c : Dev nD) : CellTallies nD τ sig Unit := O₁ c + tallyAt (barCell (prv c)) () 1

/-- Each semaphore of a device has one level. -/
def L (g : GSem nD τ sig) : Finset Unit := if g.1.2 = .tc then {()} else ∅
/-- The barriers at 1, the receive semaphore of the hop at place `i` at `2 + i`, every other semaphore at 0. -/
def lv (g : GSem nD τ sig) (_ : Unit) : ℕ :=
  match g.2 with
  | .reg _ => 1
  | .dma q => if 8 ≤ q.val ∧ (decode q).1 then 2 + place (decode q).2 else 0

/-- Elsewhere there is none; -/
theorem L_of_ne (g : GSem nD τ sig) (h : g.1.2 ≠ .tc) : L g = ∅ := if_neg h
/-- on a device's there is one. -/
theorem L_tc (c : Dev nD) (sm : SemLoc sig) : L ((c : Thread nD τ), sm) = {()} := if_pos rfl
/-- A barrier's level is 1, -/
theorem lv_bar (c : Dev nD) : lv (barCell c) () = 1 := rfl
/-- a receive cell's is 2 plus its hop's place, -/
theorem lv_recv (c : Dev nD) (s : Slot) : lv (recvCell c s) () = 2 + place s := by
  show (if 8 ≤ (xsem true s).val ∧ (decode (xsem true s)).1 then 2 + place (decode (xsem true s)).2 else 0) = _
  rw [decode_xsem, if_pos ⟨by rw [xsem_val]; omega, rfl⟩]
/-- a send cell's is 0. -/
theorem lv_send (c : Dev nD) (s : Slot) : lv (sendCell c s) () = 0 := by
  show (if 8 ≤ (xsem false s).val ∧ (decode (xsem false s)).1 then 2 + place (decode (xsem false s)).2 else 0) = _
  rw [decode_xsem, if_neg (fun h => Bool.false_ne_true h.2)]

/-- What a device owes for a list of hops is owed to the receive cells that those hops go to. -/
theorem owedL_pos {c : Dev nD} {g : GSem nD τ sig} {u : Unit} {l : List Slot} (h : 0 < owedL c l g u) :
    ∃ s ∈ l, g = recvCell (tgt s.1 c) s := by
  induction l with
  | nil => exact absurd h (Nat.lt_irrefl 0)
  | cons s t ih =>
    unfold owedL at h
    rw [Pi.add_apply, Finsupp.add_apply, tallyAt_apply] at h
    by_cases hs : g = recvCell (tgt s.1 c) s ∧ u = ()
    · exact ⟨s, List.mem_cons_self, hs.1⟩
    · rw [if_neg hs, Nat.add_zero] at h
      obtain ⟨s', hs', e⟩ := ih h
      exact ⟨s', List.mem_cons_of_mem _ hs', e⟩

/-- A cell owed something after an addition was owed before, or is the one added. -/
theorem add_tally_pos {O : CellTallies nD τ sig Unit} {g g' : GSem nD τ sig} {u : Unit} {n : ℕ} (h : 0 < (O + tallyAt g' () n) g u) :
    0 < O g u ∨ g = g' := by
  rw [Pi.add_apply, Finsupp.add_apply, tallyAt_apply] at h
  by_cases hs : g = g' ∧ u = ()
  · exact .inr hs.1
  · rw [if_neg hs] at h; exact .inl h

/-- At launch a device owes the receive cells that its hops go to, and its neighbours' barriers, and nothing else. -/
theorem O₀_pos {c : Dev nD} {g : GSem nD τ sig} {u : Unit} (h : 0 < O₀ c g u) :
    (∃ s ∈ order, g = recvCell (tgt s.1 c) s) ∨ g = barCell (nxt c) ∨ g = barCell (prv c) := by
  unfold O₀ at h
  rcases add_tally_pos h with h | h
  · unfold O₁ at h
    rcases add_tally_pos h with h | h
    · exact .inl (owedL_pos h)
    · exact .inr (.inl h)
  · exact .inr (.inr h)

omit [FloatOps F] in
/-- A wait on a cell of level `n` while hops of higher level are owed. -/
theorem mayWait_hops (c : Dev nD) (sm : SemLoc sig) (n : ℕ) (hn : lv ((c : Thread nD τ), sm) () ≤ n) (l : List Slot)
    (hl : ∀ s ∈ l, n < 2 + place s) : (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨s, -, rfl⟩ := owedL_pos hg; exact Finset.mem_singleton_self _)
    (fun p hp => by rw [Finset.mem_singleton.mp hp]; exact hn)
    (fun g u hg => by obtain ⟨s, hs, rfl⟩ := owedL_pos hg; rw [lv_recv]; exact hl s hs)

omit [FloatOps F] in
/-- A wait on a cell of level 0 while all is owed. -/
theorem mayWait_start (c : Dev nD) (sm : SemLoc sig) (h0 : lv ((c : Thread nD τ), sm) () = 0) :
    (levAts L lv : sProp 𝕄) ⊢ MayWait (c : Thread nD τ) sm () (O₀ c) :=
  MayOwe.of_cut (L := L) (lev := lv) 0 (fun p hp => by rw [Finset.mem_singleton.mp hp, L_tc]; exact Finset.mem_singleton_self _)
    (fun g u hg => by rcases O₀_pos hg with ⟨s, -, rfl⟩ | rfl | rfl <;> exact Finset.mem_singleton_self _)
    (fun p hp => by rw [Finset.mem_singleton.mp hp]; exact h0.le)
    (fun g u hg => by
      rcases O₀_pos hg with ⟨s, -, rfl⟩ | rfl | rfl
      · rw [lv_recv]; omega
      · exact Nat.one_pos
      · exact Nat.one_pos)

end Cert.Rings

end
-- ==== Proof.Geom.lean ====
/-
# Rows of packs and slots: where the loads and stores go

A load of a slot's row reads that row of what the slot holds; a store to a row of a layer's pack sets that row of what the
pack holds. Both for any buffer of the packs' and the slots' shapes.
-/
module

public import proofs.«01_k».proof.Proof.Sched

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig Unit (Elt F) ℕ UU ℕ

/-- A row of a pack lies within the buffer of packs; -/
theorem prow_inb (l : Fin 3) (k : Fin 2) :
    ∀ a, (![l.val, k.val, 0, 0] : Fin 4 → ℕ) a + S1x1x256x256.size a ≤ S3x2x256x256.size a := by revert l k; decide
/-- a row of a slot within the buffer of slots. -/
theorem rrow_inb (l h : Fin 3) (k : Fin 2) :
    ∀ a, (![l.val, h.val, k.val, 0, 0] : Fin 5 → ℕ) a + S1x1x1x256x256.size a ≤ S3x3x2x256x256.size a := by revert l h k; decide

/-- The rectangle of row `k` of layer `l`'s pack; -/
abbrev prowR (l : Fin 3) (k : Fin 2) : Rect S3x2x256x256 :=
  Rect.unit (s := S3x2x256x256) ![l.val, k.val, 0, 0] S1x1x256x256.size (prow_inb l k)
/-- of row `k` of a slot. -/
abbrev rrowR (l h : Fin 3) (k : Fin 2) : Rect S3x3x2x256x256 :=
  Rect.unit (s := S3x3x2x256x256) ![l.val, h.val, k.val, 0, 0] S1x1x1x256x256.size (rrow_inb l h k)

/-- Where an element of a layer's pack is in the packs' buffer; -/
def packIdx (l : Fin 3) (i : S2x256x256.Idx) : S3x2x256x256.Idx := fun
  | 0 => l | 1 => i 0 | 2 => i 1 | 3 => i 2
/-- where an element of a slot is in the slots' buffer. -/
def ringIdx (l h : Fin 3) (i : S2x256x256.Idx) : S3x3x2x256x256.Idx := fun
  | 0 => l | 1 => h | 2 => i 0 | 3 => i 1 | 4 => i 2

/-- Element `i` of layer `l`'s pack is at `packIdx l i` of the buffer; -/
theorem slab_emb (l : Fin 3) (i : S2x256x256.Idx) :
    (slabR l).emb (Shape.reshapeEquiv squeezes_S1x2x256x256_S2x256x256.numel_eq i) = packIdx l i := by
  rw [show Shape.reshapeEquiv squeezes_S1x2x256x256_S2x256x256.numel_eq i = Fin.cons ⟨0, Nat.one_pos⟩ i from
    Shape.reshapeEquiv_cons_one (d := ![2, 256, 256]) _ i]
  funext a
  refine Fin.ext ?_
  rw [Rect.emb_apply]
  fin_cases a
  · show l.val + 1 * 0 = l.val; omega
  · show 0 + 1 * (i 0).val = (i 0).val; omega
  · show 0 + 1 * (i 1).val = (i 1).val; omega
  · show 0 + 1 * (i 2).val = (i 2).val; omega

/-- element `i` of a slot is at `ringIdx l h i`. -/
theorem slot_emb (l h : Fin 3) (i : S2x256x256.Idx) :
    (slotR l h).emb (Shape.reshapeEquiv squeezes_S1x1x2x256x256_S2x256x256.numel_eq i) = ringIdx l h i := by
  have e : Shape.reshapeEquiv squeezes_S1x1x2x256x256_S2x256x256.numel_eq i
      = Fin.cons ⟨0, Nat.one_pos⟩ (Fin.cons ⟨0, Nat.one_pos⟩ i : S1x2x256x256.Idx) := by
    rw [← Shape.reshapeEquiv_cons_one (d := ![2, 256, 256]) (by decide) i,
      ← Shape.reshapeEquiv_cons_one (d := ![1, 2, 256, 256]) (by decide) _, Shape.reshapeEquiv_reshapeEquiv]
  rw [e]
  funext a
  refine Fin.ext ?_
  rw [Rect.emb_apply]
  fin_cases a
  · show l.val + 1 * 0 = l.val; omega
  · show h.val + 1 * 0 = h.val; omega
  · show 0 + 1 * (i 0).val = (i 0).val; omega
  · show 0 + 1 * (i 1).val = (i 1).val; omega
  · show 0 + 1 * (i 2).val = (i 2).val; omega

/-- An element of a pack's row `k` is where the row's rectangle puts it; -/
theorem prow_emb (l : Fin 3) (k : Fin 2) (i : S2x256x256.Idx) (hk : (i 0).val = k.val) :
    (prowR l k).emb (rowIdx i) = packIdx l i := by
  funext a
  refine Fin.ext ?_
  rw [Rect.emb_apply]
  fin_cases a
  · show l.val + 1 * 0 = l.val; omega
  · show k.val + 1 * 0 = (i 0).val; omega
  · show 0 + 1 * (i 1).val = (i 1).val; omega
  · show 0 + 1 * (i 2).val = (i 2).val; omega

/-- an element of the other row is outside that rectangle. -/
theorem not_mem_prow (l : Fin 3) (k : Fin 2) (i : S2x256x256.Idx) (hk : (i 0).val ≠ k.val) :
    packIdx l i ∉ Finset.univ.map (prowR l k).emb := by
  intro hm
  obtain ⟨j, -, e⟩ := Finset.mem_map.mp hm
  have e1 := congrArg Fin.val (congrFun e (1 : Fin 4))
  rw [Rect.emb_apply] at e1
  have h1 : (j (1 : Fin 4)).val = 0 := Nat.lt_one_iff.mp (j (1 : Fin 4)).isLt
  exact hk (by
    have : k.val + 1 * (j (1 : Fin 4)).val = (i 0).val := e1
    omega)

/-- An element of a slot's row is where the row's rectangle puts it. -/
theorem rrow_emb (l h : Fin 3) (k : Fin 2) (j : S1x1x1x256x256.Idx) : (rrowR l h k).emb j = ringIdx l h (slabIdx k j) := by
  have z (a : Fin 5) (ha : a.val < 3) : (j a).val = 0 := by
    have : S1x1x1x256x256.size a = 1 := by revert a; decide
    have := (j a).isLt
    omega
  funext a
  refine Fin.ext ?_
  rw [Rect.emb_apply]
  fin_cases a
  · have := z 0 (by decide); show l.val + 1 * (j 0).val = l.val; omega
  · have := z 1 (by decide); show h.val + 1 * (j 1).val = h.val; omega
  · have := z 2 (by decide); show k.val + 1 * (j 2).val = k.val; omega
  · show 0 + 1 * (j 3).val = (j 3).val; omega
  · show 0 + 1 * (j 4).val = (j 4).val; omega

section Any
variable (pm : Memref sig .tc .vmem S3x2x256x256 .bf16) (rm : Memref sig .tc .vmem S3x3x2x256x256 .bf16)

/-- A layer's pack, -/
abbrev slabOf (l : Fin 3) : Memref sig .tc .vmem S2x256x256 .bf16 :=
  (pm.slice (slabR l) (fun _ => rfl)).squeeze S2x256x256 squeezes_S1x2x256x256_S2x256x256
/-- a slot. -/
abbrev slotOf (l h : Fin 3) : Memref sig .tc .vmem S2x256x256 .bf16 :=
  (rm.slice (slotR l h) (fun _ => rfl)).squeeze S2x256x256 squeezes_S1x1x2x256x256_S2x256x256

/-- Reading a pack reads the buffer at `packIdx`; -/
theorem slab_read (l : Fin 3) (f : pm.view.ty.Contents (Elt F)) (i : S2x256x256.Idx) :
    (slabOf pm l).view.read (Elt F) f i = pm.view.read (Elt F) f (packIdx l i) := by
  rw [← slab_emb l i]; rfl
/-- reading a slot reads the buffer at `ringIdx`. -/
theorem slot_read (l h : Fin 3) (f : rm.view.ty.Contents (Elt F)) (i : S2x256x256.Idx) :
    (slotOf rm l h).view.read (Elt F) f i = rm.view.read (Elt F) f (ringIdx l h i) := by
  rw [← slot_emb l h i]; rfl

/-- A store to a row sets that row. -/
theorem slab_read_store (l : Fin 3) (k : Fin 2) (f : pm.view.ty.Contents (Elt F)) (w : S1x1x256x256.Idx → Elt F .bf16) :
    (slabOf pm l).view.read (Elt F) ((pm.access (prowR l k)).write (Elt F) f w Finset.univ)
      = setRow ((slabOf pm l).view.read (Elt F) f) k w := by
  funext i
  rw [slab_read]
  unfold setRow
  by_cases hk : (i 0).val = k.val
  · rw [if_pos hk, ← prow_emb l k i hk]
    exact View.read_slice_write_emb (prowR l k) f w (Finset.mem_univ _)
  · rw [if_neg hk, slab_read]
    exact View.read_slice_write_of_not_mem (prowR l k) f w Finset.univ (not_mem_prow l k i hk)

/-- A load of a row reads that row. -/
theorem slot_readAt (l h : Fin 3) (k : Fin 2) (f : rm.view.ty.Contents (Elt F)) :
    rm.view.readAt (Elt F) (rrowR l h k).toLoadRect f = row ((slotOf rm l h).view.read (Elt F) f) k := by
  funext j
  unfold row
  rw [slot_read, ← rrow_emb l h k j]
  rfl

/-- A store to a pack's row stays within the pack; -/
theorem prow_subset (l : Fin 3) (k : Fin 2) : (pm.access (prowR l k)).setOn Finset.univ ⊆ (slabOf pm l).view.set := by
  intro x hx
  obtain ⟨j, -, rfl⟩ := Finset.mem_map.mp hx
  have z (a : Fin 4) (ha : a.val < 2) : (j a).val = 0 := by
    have : S1x1x256x256.size a = 1 := by revert a; decide
    have h2 : (j a).val < S1x1x256x256.size a := (j a).isLt
    omega
  let i : S2x256x256.Idx := fun | 0 => k | 1 => j 2 | 2 => j 3
  have e : (prowR l k).emb j = packIdx l i := by
    rw [← prow_emb l k i rfl]
    refine congrArg _ (funext fun a => Fin.ext ?_)
    fin_cases a
    · exact z 0 (by decide)
    · exact z 1 (by decide)
    · rfl
    · rfl
  refine Finset.mem_map.mpr ⟨i, Finset.mem_univ _, ?_⟩
  show pm.view.emb ((slabR l).emb (Shape.reshapeEquiv _ i)) = pm.view.emb ((prowR l k).emb j)
  rw [slab_emb, e]

/-- so does a load from it; -/
theorem prow_load_subset (l : Fin 3) (k : Fin 2) : pm.view.setOn (prowR l k).toLoadRect.set ⊆ (slabOf pm l).view.set := by
  refine Finset.Subset.trans ?_ (prow_subset pm l k)
  rw [View.setOn_univ]
  show pm.view.setOn (prowR l k).toLoadRect.set ⊆ (pm.view.slice (prowR l k)).set
  rw [View.set_slice]
  exact Finset.Subset.refl _

/-- a load from a slot's row stays within the slot. -/
theorem rrow_load_subset (l h : Fin 3) (k : Fin 2) : rm.view.setOn (rrowR l h k).toLoadRect.set ⊆ (slotOf rm l h).view.set := by
  have e : rm.view.setOn (rrowR l h k).toLoadRect.set = (rm.view.slice (rrowR l h k)).set := by
    rw [View.set_slice]; rfl
  rw [e]
  intro x hx
  obtain ⟨j, -, rfl⟩ := Finset.mem_map.mp hx
  refine Finset.mem_map.mpr ⟨slabIdx k j, Finset.mem_univ _, ?_⟩
  show rm.view.emb ((slotR l h).emb (Shape.reshapeEquiv _ _)) = rm.view.emb ((rrowR l h k).emb j)
  rw [slot_emb, rrow_emb]

end Any

end Cert.Rings

end
-- ==== Proof.Steps.lean ====
/-
# The steps of the protocol, each for any hop

What a device holds between its steps — the hops still to send, sent, still to receive, received — and one rule for each
kind of step: a copy sent, a receipt waited for, a send waited for, a row loaded or stored.
-/
module

public import proofs.«01_k».proof.Proof.Geom

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- No variant is used. -/
abbrev 𝒱₀ : Variants := Variants.none

/-! ## Cells and what is known of all of them -/

/-- A device's cells: its barrier, and each hop's send and receive cell. -/
abbrev CIx : Type := Option (Bool × Slot)
/-- The semaphore of a cell; -/
abbrev csem : CIx → SemLoc sig
  | none => .reg barS
  | some (b, s) => .dma (xsem b s)
/-- the cell on its device. -/
abbrev kcell (ck : Dev nD × CIx) : GSem nD τ sig := ((ck.1 : Thread nD τ), csem ck.2)

/-- Every cell's invariant, at the names `K`, and that each has reached its round. -/
def records (K : Dev nD × CIx → ℕ) : sProp 𝕄 :=
  iprop((bigSep Finset.univ fun ck : Dev nD × CIx => cellInv ER (ringRd m) (K ck) (kcell ck))
    ∗ bigSep Finset.univ fun ck : Dev nD × CIx => reached ER (kcell ck) 0)

/-- The records may be used again and again. -/
instance records_persistent (K : Dev nD × CIx → ℕ) : BI.Persistent (records m K) := by unfold records; infer_instance

/-- Of the records, one cell's invariant; -/
theorem inv_at (K : Dev nD × CIx → ℕ) (ck : Dev nD × CIx) : records m K ⊢ cellInv ER (ringRd m) (K ck) (kcell ck) := by
  unfold records
  exact (Laws.sep_and).trans (and_elimL.trans (bigSep_elim (Φ := fun ck : Dev nD × CIx => (cellInv ER (ringRd m) (K ck) (kcell ck) : sProp 𝕄)) (Finset.mem_univ ck)))
/-- that one cell has reached its round. -/
theorem reached_at (K : Dev nD × CIx → ℕ) (ck : Dev nD × CIx) : records m K ⊢ reached ER (kcell ck) 0 := by
  unfold records
  exact (Laws.sep_and).trans (and_elimR.trans (bigSep_elim (Φ := fun ck : Dev nD × CIx => (reached ER (kcell ck) 0 : sProp 𝕄)) (Finset.mem_univ ck)))

/-- What every step may use: the records and the levels. -/
def ctx (K : Dev nD × CIx → ℕ) : sProp 𝕄 := iprop(records m K ∗ levAts L lv)
/-- So may the levels with them. -/
instance ctx_persistent (K : Dev nD × CIx → ℕ) : BI.Persistent (ctx m K) := by unfold ctx; infer_instance

/-! ## A resource for each hop of a list -/

/-- `Φ s` for each `s` of the list. -/
def sepL (Φ : Slot → sProp 𝕄) : List Slot → sProp 𝕄
  | [] => iprop(emp)
  | s :: t => iprop(Φ s ∗ sepL Φ t)

omit [FloatOps F] in
/-- The first hop's resource, and the others'. -/
theorem sepL_cons (Φ : Slot → sProp 𝕄) (s : Slot) (t : List Slot) : sepL Φ (s :: t) = iprop(Φ s ∗ sepL Φ t) := rfl

omit [FloatOps F] in
/-- Over a list without repetition it is the conjunction over its elements. -/
theorem sepL_eq (Φ : Slot → sProp 𝕄) (l : List Slot) (h : l.Nodup) : sepL Φ l = bigSep l.toFinset Φ := by
  induction l with
  | nil => rw [List.toFinset_nil, bigSep_empty]; rfl
  | cons s t ih =>
    obtain ⟨hs, ht⟩ := List.nodup_cons.mp h
    rw [sepL_cons, List.toFinset_cons, bigSep_insert (by rwa [List.mem_toFinset]), ih ht]
    rfl

/-- The hops from the `i`-th on are the `i`-th and those after it; -/
theorem drop_step {l : List Slot} {i : ℕ} {s : Slot} (h : l[i]? = some s) : l.drop i = s :: l.drop (i + 1) := by
  obtain ⟨hi, e⟩ := List.getElem?_eq_some_iff.mp h
  rw [List.drop_eq_getElem_cons hi, e]
/-- the hops up to the `i`-th, last first, are the `i`-th and those before it. -/
theorem take_step {l : List Slot} {i : ℕ} {s : Slot} (h : l[i]? = some s) : (l.take (i + 1)).reverse = s :: (l.take i).reverse := by
  obtain ⟨hi, e⟩ := List.getElem?_eq_some_iff.mp h
  rw [List.take_succ_eq_append_getElem hi, e, List.reverse_append]; rfl

omit [FloatOps F] in
/-- One element's resource, and what returns it. -/
theorem sepL_pick (Φ : Slot → sProp 𝕄) {l : List Slot} {s : Slot} (h : s ∈ l) : sepL Φ l ⊢ iprop(Φ s ∗ (Φ s -∗ sepL Φ l)) := by
  induction l with
  | nil => exact absurd h List.not_mem_nil
  | cons a t ih =>
    rw [sepL_cons]
    rcases List.mem_cons.mp h with rfl | h
    · iintro ⟨H, Ht⟩
      isplitl [H]; · iexact H
      iintro H; isplitl [H] <;> iassumption
    · iintro ⟨Ha, Ht⟩
      ihave H := (ih h) $$ Ht
      icases H with ⟨H, Hk⟩
      isplitl [H]; · iexact H
      iintro H
      isplitl [Ha]; · iexact Ha
      iapply Hk; iexact H

/-! ## What a device holds between its steps -/

/-- For a hop still to send: the two duties the copy pays, the position at its send cell, and the slot it fills. -/
def sendTok (c : Dev nD) (s : Slot) : sProp 𝕄 :=
  iprop((dutyTok ER (sendCell c s) 0 false ∗ dutyTok ER (recvCell (tgt s.1 c) s) 0 false ∗ atPos ER (sendCell c s) 0 ∅ 0)
    ∗ ∃ X, owns (tgt s.1 c : Thread nD τ) (slotM s) fullShare X)
/-- For a hop sent: the credit and the position its wait spends. -/
def sentTok (c : Dev nD) (s : Slot) : sProp 𝕄 := iprop(cred (tallyAt (sendCell c s) () N) ∗ atPos ER (sendCell c s) 0 ∅ 0)
/-- For a hop still to receive: the credit and the position its wait spends. -/
def recvTok (c : Dev nD) (s : Slot) : sProp 𝕄 := iprop(cred (tallyAt (recvCell c s) () N) ∗ atPos ER (recvCell c s) 0 ∅ 0)
/-- The share of a slot that stays for the loads: the half its forwarding does not read, all of one not forwarded. -/
def keepShare : Slot → PosShare TreeShare
  | (_, _, ⟨0, _⟩) => fullShare.right
  | (_, _, ⟨1, _⟩) => fullShare.right
  | (_, _, ⟨_ + 2, _⟩) => fullShare
/-- A hop received: its receive cell closed, its slot filled. -/
def doneTok (c : Dev nD) (s : Slot) : sProp 𝕄 :=
  iprop(semVal (recvCell c s) 0 ∗ owns (c : Thread nD τ) (slotM s) (keepShare s) (landV m c s))
/-- A hop whose send has been waited for: its send cell closed, its source back. -/
def backTok (c : Dev nD) (s : Slot) : sProp 𝕄 := iprop(semVal (sendCell c s) 0 ∗ sendPay m c s)
/-- What it owes for the hops still to send. -/
def owesL (c : Dev nD) (l : List Slot) : sProp 𝕄 := iprop(∃ W, owes (c : Thread nD τ) (owedL c l) W)

omit [FloatOps F] in
/-- The credit and the position make up what is held for a hop sent. -/
theorem sentTok_close (c : Dev nD) (s : Slot) : iprop(cred (tallyAt (sendCell c s) () N) ∗ atPos ER (sendCell c s) 0 ∅ 0) ⊢ (sentTok c s : sProp 𝕄) := .rfl

/-- The staged inputs. -/
def Ins (c : Dev nD) : sProp 𝕄 :=
  iprop((((c : Thread nD τ).loc cc0_stg0_0) ↦{fullShare} xC m c)
    ∗ (((c : Thread nD τ).loc cc0_stg1_0) ↦{fullShare} winC m c 0)
    ∗ (((c : Thread nD τ).loc cc0_stg2_0) ↦{fullShare} woutC m c 0)
    ∗ (((c : Thread nD τ).loc cc0_stg3_0) ↦{fullShare} winC m c 1)
    ∗ (((c : Thread nD τ).loc cc0_stg4_0) ↦{fullShare} woutC m c 1)
    ∗ (((c : Thread nD τ).loc cc0_stg5_0) ↦{fullShare} winC m c 2)
    ∗ (((c : Thread nD τ).loc cc0_stg6_0) ↦{fullShare} woutC m c 2))

/-- After `i` sends and `j` receipts. -/
def St (K : Dev nD × CIx → ℕ) (c : Dev nD) (i j : ℕ) : sProp 𝕄 :=
  iprop(ctx m K ∗ Ins m c ∗ owesL c (order.drop i) ∗ sepL (sendTok c) (order.drop i) ∗ sepL (sentTok c) (order.take i).reverse
    ∗ sepL (recvTok c) (order.drop j) ∗ sepL (doneTok m c) (order.take j).reverse)

/-- After all sends and receipts and the waits for the first `n` sends, in the order of `drain`. -/
def Dr (K : Dev nD × CIx → ℕ) (c : Dev nD) (n : ℕ) : sProp 𝕄 :=
  iprop(ctx m K ∗ owesL c [] ∗ sepL (sentTok c) (drain.drop n) ∗ sepL (backTok m c) (drain.take n).reverse)

/-- The program logic on device `c`. -/
abbrev Wp (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps
variable (K : Dev nD × CIx → ℕ) (c : Dev nD)

/-! ## The transfers -/

/-- The copy of a hop: its source is lent, the hop becomes a sent one. -/
theorem step_send (s : Slot) (i j : ℕ) (hi : order[i]? = some s) {n : Dev nD} (hn : n = tgt s.1 c)
    {hsc : (slotM s : Memref sig (Dev.tc n : Thread nD τ).2.kind .vmem S2x256x256 .bf16).view.ref.isScScratch = false}
    {hsrc : (srcM s).view.WordExact} {hdst : (slotM s).view.WordExact}
    {hsem : DmaTarget.Typed .vmem (.dma (xsem true s)) (.remote (Dev.tc n : Thread nD τ) (slotM s) (.dma (xsem false s)) hsc)}
    {α : Type} {Q : α → sProp 𝕄} {k : PUnit → Prog (TpuEff nD τ sig (Elt F) Λ₀ .tc) α} :
    iprop(St m K c i j ∗ sendPay m c s)
      ⊢ iprop((St m K c (i + 1) j -∗ Wp c (k ⟨⟩) Q)
          -∗ Wp c (.op (.enqueueDma (srcM s) (.remote (Dev.tc n : Thread nD τ) (slotM s) (.dma (xsem false s)) hsc) (.dma (xsem true s)) hsrc hdst hsem) k) Q) := by
  subst hn
  unfold St ctx
  rw [drop_step hi, take_step hi]
  simp only [sepL_cons]
  unfold owesL
  iintro ⟨⟨⟨#HR, #Hlev⟩, HI, ⟨%W, HO⟩, ⟨Htok, Htoks⟩, Hsent, Hrest⟩, Hsrc⟩ Hk
  ihave Htok' := (show (sendTok c s : sProp 𝕄)
    ⊢ iprop((dutyTok ER (sendCell c s) 0 false ∗ dutyTok ER (recvCell (tgt s.1 c) s) 0 false ∗ atPos ER (sendCell c s) 0 ∅ 0)
      ∗ ∃ X, ∃ f, ⌜(slotM s).view.read (Elt F) f = X⌝ ∗ ((slotM s).view.loc (tgt s.1 c : Thread nD τ) ↦[(slotM s).view.set]{fullShare} f)) from .rfl) $$ Htok
  icases Htok' with ⟨⟨Hd1, Hd2, Hat⟩, ⟨%X, ⟨%fd, -, Hdst⟩⟩⟩
  ihave Hsrc' := (show sendPay m c s
    ⊢ iprop(∃ f, ⌜(srcM s).view.read (Elt F) f = sendV m c s⌝ ∗ ((srcM s).view.loc (c : Thread nD τ) ↦[(srcM s).view.set]{srcShare s} f)) from .rfl) $$ Hsrc
  icases Hsrc' with ⟨%fs, %hfs, Hsrc⟩
  iapply (Rounds.wp_send_pointsTo 𝒱₀ ER (ringRd m) (c : Thread nD τ) none (κ₁ := K (c, some (false, s))) (κ₂ := K (tgt s.1 c, some (true, s)))
    (r₁ := 0) (r₂ := 0) (d₁ := false) (d₂ := false) (fd := fd) (q := srcShare s) (fs := fs)
    (by rw [duties_x]; exact Finset.mem_singleton_self _) (by rw [duties_x]; exact Finset.mem_singleton_self _)
    () () N (by exact slot_credit s) (amount_x m c s false false) (amount_x m (tgt s.1 c) s true false) (owedL c (order.drop (i + 1))) rfl (W := W)
    (by
      rw [payload_send]; unfold sendPay owns
      iintro H; iexists fs; isplitr; · ipureintro; exact hfs
      iexact H)
    (by
      rw [payload_recv]; unfold recvPay owns
      iintro H; iexists _
      isplitr
      rotate_left
      · iexact H
      · ipureintro; rw [View.read_write_univ, hfs]; unfold landV; rw [org_tgt])) $$ [HO Hsrc Hdst Hd1 Hd2]
  · isplitr; · iapply (inv_at m K (c, some (false, s))); iexact HR
    isplitr; · iapply (inv_at m K (tgt s.1 c, some (true, s))); iexact HR
    isplitl [Hsrc]; · iexact Hsrc
    isplitl [Hdst]; · iexact Hdst
    isplitl [HO]; · iexact HO
    isplitl [Hd1]; · iexact Hd1
    isplitr; · iapply (reached_at m K (c, some (false, s))); iexact HR
    isplitl [Hd2]; · iexact Hd2
    iapply (reached_at m K (tgt s.1 c, some (true, s))); iexact HR
  iintro ⟨Hc, HO⟩
  iapply Hk
  isplitr
  · isplitl; · iexact HR
    iexact Hlev
  isplitl [HI]; · iexact HI
  isplitl [HO]; · iexists W; iexact HO
  isplitl [Htoks]; · iexact Htoks
  isplitl [Hc Hat Hsent]
  · isplitl [Hc Hat]
    · iapply (sentTok_close c s); isplitl [Hc] <;> iassumption
    iexact Hsent
  iexact Hrest

/-- The wait for a hop's receipt: its slot comes filled, its receive cell closes. -/
theorem step_recv (s : Slot) (i j : ℕ) (hj : order[j]? = some s) (hlv : ∀ s' ∈ order.drop i, 2 + place s < 2 + place s')
    {src dst : Memref sig .tc .vmem S2x256x256 .bf16} (hN : dst.view.dmaCredit = N)
    {h1 : src.view.WordExact} {h2 : dst.view.WordExact}
    {α : Type} {Q : α → sProp 𝕄} {k : PUnit → Prog (TpuEff nD τ sig (Elt F) Λ₀ .tc) α} (P : sProp 𝕄)
    (hP : owns (c : Thread nD τ) (slotM s) fullShare (landV m c s) ⊢ iprop(owns (c : Thread nD τ) (slotM s) (keepShare s) (landV m c s) ∗ P)) :
    St m K c i j
      ⊢ iprop((iprop(St m K c i (j + 1) ∗ P) -∗ Wp c (k ⟨⟩) Q)
          -∗ Wp c (.op (.waitDma2 (xsem true s) src dst h1 h2) k) Q) := by
  unfold St ctx
  rw [drop_step hj, take_step hj]
  simp only [sepL_cons]
  unfold owesL
  iintro ⟨⟨#HR, #Hlev⟩, HI, ⟨%W, HO⟩, Htoks, Hsent, ⟨Htok, Hrest⟩, Hz⟩ Hk
  ihave Htok' := (show (recvTok c s : sProp 𝕄) ⊢ iprop(cred (tallyAt (recvCell c s) () N) ∗ atPos ER (recvCell c s) 0 ∅ 0) from .rfl) $$ Htok
  icases Htok' with ⟨Hc, Hat⟩
  iapply (Rounds.wp_wait_rest_token 𝒱₀ ER (ringRd m) (c : Thread nD τ) none (κ := K (c, some (true, s)))
      (wpE_waitDma2_eq 𝒱₀ (c : Thread nD τ) none Set.univ) (Set.mem_univ _) () (O := owedL c (order.drop i)) (W := W) (R := 0) (m := 0) (T := ∅)
      (by rw [Nat.zero_add, expect_x, hN])) $$ [Hc HO Hat]
  · isplitr; · iapply (inv_at m K (c, some (true, s))); iexact HR
    isplitl [Hc]; · rw [hN]; iexact Hc
    isplitl [HO]; · iexact HO
    isplitr; · iapply (mayWait_hops c _ _ (lv_recv c s).le (order.drop i) hlv); iexact Hlev
    iexact Hat
  iintro ⟨HO, Hat, -, Hpay⟩
  ihave Hp := ((Entails.of_eq (rest_recv m c s)).trans hP) $$ Hpay
  icases Hp with ⟨Hkeep, HP⟩
  imod (Rounds.cell_close ER (ringRd m) (Set.mem_univ (K (c, some (true, s)))) (fun h => h) (R := 0 + 1) (duties_later m (recvCell c s))) $$ [Hat] with Hzs
  · isplitr; · iapply (inv_at m K (c, some (true, s))); iexact HR
    iexact Hat
  iapply Hk
  isplitr [HP]
  · isplitr
    · isplitl; · iexact HR
      iexact Hlev
    isplitl [HI]; · iexact HI
    isplitl [HO]; · iexists _; iexact HO
    isplitl [Htoks]; · iexact Htoks
    isplitl [Hsent]; · iexact Hsent
    isplitl [Hrest]; · iexact Hrest
    isplitl [Hzs Hkeep]
    · iapply (show iprop(semVal (recvCell c s) 0 ∗ owns (c : Thread nD τ) (slotM s) (keepShare s) (landV m c s)) ⊢ doneTok m c s from .rfl)
      isplitl [Hzs] <;> iassumption
    iexact Hz
  iexact HP

/-- A receipt of a hop that is forwarded: half of its slot is the next hop's source. -/
theorem keep_forward (d : Bool) (l h h' : Fin 3) (hh : h'.val = h.val + 1) :
    owns (c : Thread nD τ) (slotM (d, l, h)) fullShare (landV m c (d, l, h))
      ⊢ iprop(owns (c : Thread nD τ) (slotM (d, l, h)) (keepShare (d, l, h)) (landV m c (d, l, h)) ∗ sendPay m c (d, l, h')) := by
  have h2 : ∀ X : S2x256x256.Idx → Elt F .bf16, (owns (c : Thread nD τ) (slotM (d, l, h)) fullShare X : sProp 𝕄)
      ⊢ iprop(owns (c : Thread nD τ) (slotM (d, l, h)) fullShare.right X ∗ owns (c : Thread nD τ) (slotM (d, l, h)) fullShare.left X) := fun X => by
    iintro H
    ihave H' := (owns_halves (c : Thread nD τ) (slotM (d, l, h)) fullShare X).1 $$ H
    icases H' with ⟨H1, H2⟩
    isplitl [H2] <;> iassumption
  obtain ⟨h, hp⟩ := h; obtain ⟨h', hp'⟩ := h'
  obtain rfl : h' = h + 1 := hh
  rcases h with _ | _ | h
  · exact h2 _
  · exact h2 _
  · omega
/-- A receipt of a hop that is not. -/
theorem keep_last (d : Bool) (l : Fin 3) :
    (owns (c : Thread nD τ) (slotM (d, l, 2)) fullShare (landV m c (d, l, 2)) : sProp 𝕄)
      ⊢ iprop(owns (c : Thread nD τ) (slotM (d, l, 2)) (keepShare (d, l, 2)) (landV m c (d, l, 2)) ∗ emp) := by
  iintro H
  isplitl [H]; · iexact H
  iempintro

/-- The wait for a hop's send: its source comes back, its send cell closes. -/
theorem step_drain (s : Slot) (n : ℕ) (hj : drain[n]? = some s)
    {src dst : Memref sig .tc .vmem S2x256x256 .bf16} (hN : dst.view.dmaCredit = N)
    {h1 : src.view.WordExact} {h2 : dst.view.WordExact}
    {α : Type} {Q : α → sProp 𝕄} {k : PUnit → Prog (TpuEff nD τ sig (Elt F) Λ₀ .tc) α} :
    Dr m K c n
      ⊢ iprop((Dr m K c (n + 1) -∗ Wp c (k ⟨⟩) Q)
          -∗ Wp c (.op (.waitDma2 (xsem false s) src dst h1 h2) k) Q) := by
  unfold Dr ctx
  rw [drop_step hj, take_step hj]
  simp only [sepL_cons]
  unfold owesL
  iintro ⟨⟨#HR, #Hlev⟩, ⟨%W, HO⟩, ⟨Htok, Hrest⟩, Hz⟩ Hk
  ihave Htok' := (show (sentTok c s : sProp 𝕄) ⊢ iprop(cred (tallyAt (sendCell c s) () N) ∗ atPos ER (sendCell c s) 0 ∅ 0) from .rfl) $$ Htok
  icases Htok' with ⟨Hc, Hat⟩
  iapply (Rounds.wp_wait_rest_token 𝒱₀ ER (ringRd m) (c : Thread nD τ) none (κ := K (c, some (false, s)))
      (wpE_waitDma2_eq 𝒱₀ (c : Thread nD τ) none Set.univ) (Set.mem_univ _) () (O := owedL c []) (W := W) (R := 0) (m := 0) (T := ∅)
      (by rw [Nat.zero_add, expect_x, hN])) $$ [Hc HO Hat]
  · isplitr; · iapply (inv_at m K (c, some (false, s))); iexact HR
    isplitl [Hc]; · rw [hN]; iexact Hc
    isplitl [HO]; · iexact HO
    isplitr; · unfold owedL; rw [MayWait_zero]; iempintro
    iexact Hat
  iintro ⟨HO, Hat, -, Hpay⟩
  ihave Hp := (Entails.of_eq (rest_send m c s)) $$ Hpay
  imod (Rounds.cell_close ER (ringRd m) (Set.mem_univ (K (c, some (false, s)))) (fun h => h) (R := 0 + 1) (duties_later m (sendCell c s))) $$ [Hat] with Hzs
  · isplitr; · iapply (inv_at m K (c, some (false, s))); iexact HR
    iexact Hat
  iapply Hk
  isplitr
  · isplitl; · iexact HR
    iexact Hlev
  isplitl [HO]; · iexists _; iexact HO
  isplitl [Hrest]; · iexact Hrest
  isplitl [Hzs Hp]
  · iapply (show iprop(semVal (sendCell c s) 0 ∗ sendPay m c s) ⊢ backTok m c s from .rfl)
    isplitl [Hzs] <;> iassumption
  iexact Hz

/-! ## Loads and stores -/

/-- A load of a row of a received slot. -/
theorem step_row (d : Bool) (l h : Fin 3) (kk : Fin 2) (i j : ℕ) (hs : (d, l, h) ∈ (order.take j).reverse)
    {hl : (ringM d).view.LoadsAt (rrowR l h kk).toLoadRect}
    {α : Type} {Q : α → sProp 𝕄} {k : (S1x1x1x256x256.Idx → Elt F .bf16) → Prog (TpuEff nD τ sig (Elt F) Λ₀ .tc) α} :
    St m K c i j
      ⊢ iprop((St m K c i j -∗ Wp c (k (row (landV m c (d, l, h)) kk)) Q)
          -∗ Wp c (.op (.load (ringM d) (rrowR l h kk).toLoadRect hl) k) Q) := by
  unfold St
  iintro ⟨Hctx, HI, HO, Htoks, Hsent, Hrest, Hz⟩ Hk
  ihave Hz' := (sepL_pick (doneTok m c) hs) $$ Hz
  icases Hz' with ⟨H, Hback⟩
  ihave H' := (show doneTok m c (d, l, h) ⊢ iprop(semVal (recvCell c (d, l, h)) 0
      ∗ ∃ f, ⌜(slotM (d, l, h)).view.read (Elt F) f = landV m c (d, l, h)⌝
        ∗ ((ringM d).view.loc (c : Thread nD τ) ↦[(slotM (d, l, h)).view.set]{keepShare (d, l, h)} f)) from .rfl) $$ H
  icases H' with ⟨Hzs, ⟨%f, %hf, H⟩⟩
  iapply (wp_load 𝒱₀ (c : Thread nD τ) none Set.univ (m := ringM d) (rrow_load_subset (ringM d) l h kk)) $$ H
  iintro H
  rw [slot_readAt (ringM d) l h kk f, hf]
  iapply Hk
  isplitl [Hctx]; · iexact Hctx
  isplitl [HI]; · iexact HI
  isplitl [HO]; · iexact HO
  isplitl [Htoks]; · iexact Htoks
  isplitl [Hsent]; · iexact Hsent
  isplitl [Hrest]; · iexact Hrest
  iapply Hback
  iapply (show iprop(semVal (recvCell c (d, l, h)) 0
      ∗ ∃ f, ⌜(slotM (d, l, h)).view.read (Elt F) f = landV m c (d, l, h)⌝
        ∗ ((ringM d).view.loc (c : Thread nD τ) ↦[(slotM (d, l, h)).view.set]{keepShare (d, l, h)} f)) ⊢ doneTok m c (d, l, h) from .rfl)
  isplitl [Hzs]; · iexact Hzs
  iexists f
  isplitr; · ipureintro; exact hf
  iexact H

/-- A load of a row of a pack: what it reads is not used. -/
theorem step_peek (d : Bool) (l : Fin 3) (kk : Fin 2) (X : S2x256x256.Idx → Elt F .bf16)
    {hl : (packM d).view.LoadsAt (prowR l kk).toLoadRect}
    {α : Type} {Q : α → sProp 𝕄} {k : (S1x1x256x256.Idx → Elt F .bf16) → Prog (TpuEff nD τ sig (Elt F) Λ₀ .tc) α} :
    owns (c : Thread nD τ) (slabM d l) fullShare X
      ⊢ iprop((∀ v, owns (c : Thread nD τ) (slabM d l) fullShare X -∗ Wp c (k v) Q)
          -∗ Wp c (.op (.load (packM d) (prowR l kk).toLoadRect hl) k) Q) := by
  iintro H Hk
  ihave H' := (show owns (c : Thread nD τ) (slabM d l) fullShare X
    ⊢ iprop(∃ f, ⌜(slabM d l).view.read (Elt F) f = X⌝ ∗ ((packM d).view.loc (c : Thread nD τ) ↦[(slabM d l).view.set]{fullShare} f)) from .rfl) $$ H
  icases H' with ⟨%f, %hf, H⟩
  iapply (wp_load 𝒱₀ (c : Thread nD τ) none Set.univ (m := packM d) (prow_load_subset (packM d) l kk)) $$ H
  iintro H
  iapply Hk
  unfold owns
  iexists f
  isplitr; · ipureintro; exact hf
  iexact H

/-- A store of a row of a pack. -/
theorem step_set (d : Bool) (l : Fin 3) (kk : Fin 2) (X : S2x256x256.Idx → Elt F .bf16) {w : S1x1x256x256.Idx → Elt F .bf16}
    {hx : ((packM d).access (prowR l kk)).Stores Finset.univ}
    {hm : (Finset.univ : Finset (prowR l kk).shape.Idx) = Finset.univ ∨ ∀ b, (prowR l kk).stride b = 1}
    {α : Type} {Q : α → sProp 𝕄} {k : PUnit → Prog (TpuEff nD τ sig (Elt F) Λ₀ .tc) α} :
    owns (c : Thread nD τ) (slabM d l) fullShare X
      ⊢ iprop((owns (c : Thread nD τ) (slabM d l) fullShare (setRow X kk w) -∗ Wp c (k ⟨⟩) Q)
          -∗ Wp c (.op (.store (packM d) (prowR l kk) w Finset.univ hx hm) k) Q) := by
  iintro H Hk
  ihave H' := (show owns (c : Thread nD τ) (slabM d l) fullShare X
    ⊢ iprop(∃ f, ⌜(slabM d l).view.read (Elt F) f = X⌝ ∗ (((packM d).access (prowR l kk)).loc (c : Thread nD τ) ↦[(slabM d l).view.set]{fullShare} f)) from .rfl) $$ H
  icases H' with ⟨%f, %hf, H⟩
  iapply (wp_store 𝒱₀ (c : Thread nD τ) none Set.univ (m := packM d) (r := prowR l kk) (Mk := Finset.univ) (prow_subset (packM d) l kk)) $$ H
  iintro H
  iapply Hk
  unfold owns
  iexists _
  isplitr
  rotate_left
  · iexact H
  · ipureintro; rw [← hf]; exact slab_read_store (packM d) l kk f w

/-- A pack both of whose rows have been stored is the source of its first hop. -/
theorem pack_done (d : Bool) (l : Fin 3) (X : S2x256x256.Idx → Elt F .bf16) {u v : S1x1x256x256.Idx → Elt F .bf16}
    (hu : u = k0_pay1 (inHalf (winC m c l) d)) (hv : v = k0_pay1 (outHalf (woutC m c l) d)) :
    owns (c : Thread nD τ) (slabM d l) fullShare (setRow (setRow X 0 u) 1 v) ⊢ sendPay m c (d, l, 0) := by
  rw [setRow_setRow, hu, hv]; exact .rfl

/-- A load of a staged input. -/
theorem step_in (i j : ℕ) {s : Shape} {e : EltTy} (a : Memref sig .tc .vmem s e) {X : Buf (Elt F) (a.view.loc (c : Thread nD τ))}
    (hb : Ins m c ⊢ iprop((a.view.loc (c : Thread nD τ) ↦{fullShare} X) ∗ ((a.view.loc (c : Thread nD τ) ↦{fullShare} X) -∗ Ins m c)))
    {r : LoadRect s} {hl : a.view.LoadsAt r}
    {α : Type} {Q : α → sProp 𝕄} {k : (r.shape.Idx → Elt F e) → Prog (TpuEff nD τ sig (Elt F) Λ₀ .tc) α} :
    St m K c i j
      ⊢ iprop((St m K c i j -∗ Wp c (k (a.view.readAt (Elt F) r X)) Q) -∗ Wp c (.op (.load a r hl) k) Q) := by
  unfold St
  iintro ⟨Hctx, HI, Hrest⟩ Hk
  ihave HI' := hb $$ HI
  icases HI' with ⟨H, Hback⟩
  iapply (wp_load 𝒱₀ (c : Thread nD τ) none Set.univ (m := a) (Finset.subset_univ _)) $$ H
  iintro H
  iapply Hk
  isplitl [Hctx]; · iexact Hctx
  isplitr [Hrest]
  · iapply Hback; iexact H
  iexact Hrest

/-- A load whose value is known. -/
theorem step_whole (i j : ℕ) {s : Shape} {e : EltTy} (a : Memref sig .tc .vmem s e) {X : Buf (Elt F) (a.view.loc (c : Thread nD τ))}
    (hb : Ins m c ⊢ iprop((a.view.loc (c : Thread nD τ) ↦{fullShare} X) ∗ ((a.view.loc (c : Thread nD τ) ↦{fullShare} X) -∗ Ins m c)))
    {r : LoadRect s} {hl : a.view.LoadsAt r} {V : r.shape.Idx → Elt F e} (hV : a.view.readAt (Elt F) r X = V)
    {α : Type} {Q : α → sProp 𝕄} {k : (r.shape.Idx → Elt F e) → Prog (TpuEff nD τ sig (Elt F) Λ₀ .tc) α} :
    St m K c i j ⊢ iprop((St m K c i j -∗ Wp c (k V) Q) -∗ Wp c (.op (.load a r hl) k) Q) := by
  subst hV; exact step_in m K c i j a hb

/-- The end of a part. -/
theorem step_ret {α : Type} {Q : α → sProp 𝕄} {a : α} : Q a ⊢ Wp c (.ret a) Q := by
  show Q a ⊢ wp frame (wpE (defs₀ (F := F)) 𝒱₀ (c : Thread nD τ) none) Set.univ (.ret a) Q
  rw [wp_ret]
  iintro H; imodintro; iexact H

end Steps

end Cert.Rings

end
-- ==== Proof.Kit.lean ====
/-
# The kernel's own buffers, and its staged inputs
-/
module

public import proofs.«01_k».proof.Proof.Steps

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A part of the body at the kernel's own buffers. -/
abbrev appl {β : Type 1} (f : (a0 : Memref sig .tc .vmem S512x256 .f32) → a0.IsWhole → (a1 : Memref sig .tc .vmem S256x512 .f32) → a1.IsWhole
    → (a2 : Memref sig .tc .vmem S512x256 .f32) → a2.IsWhole → (a3 : Memref sig .tc .vmem S256x512 .f32) → a3.IsWhole
    → (a4 : Memref sig .tc .vmem S512x256 .f32) → a4.IsWhole → (a5 : Memref sig .tc .vmem S256x512 .f32) → a5.IsWhole
    → (a6 : Memref sig .tc .vmem S512x256 .f32) → a6.IsWhole → (a7 : Memref sig .tc .vmem S512x256 .f32) → a7.IsWhole
    → (a8 : Memref sig .tc .vmem S3x2x256x256 .bf16) → a8.IsWhole → (a9 : Memref sig .tc .vmem S3x2x256x256 .bf16) → a9.IsWhole
    → (a10 : Memref sig .tc .vmem S3x3x2x256x256 .bf16) → a10.IsWhole → (a11 : Memref sig .tc .vmem S3x3x2x256x256 .bf16) → a11.IsWhole
    → DmaSems sig S3x3 → DmaSems sig S3x3 → DmaSems sig S3x3 → DmaSems sig S3x3 → β) : β :=
  f (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_stg6_0) (Memref.isWhole_whole _) (Memref.whole cc0_stg7_0) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7

section Ins
variable (c : Dev nD)

omit [FloatOps F] in
/-- What is held can be taken and put back; -/
theorem pick_self (P : sProp 𝕄) : P ⊢ iprop(P ∗ (P -∗ P)) := by
  iintro H
  isplitl; · iexact H
  iintro H; iexact H
omit [FloatOps F] in
/-- the first of two can be taken and put back; -/
theorem pick_left (P B : sProp 𝕄) : iprop(P ∗ B) ⊢ iprop(P ∗ (P -∗ iprop(P ∗ B))) := by
  iintro ⟨H, HB⟩
  isplitl [H]; · iexact H
  iintro H
  isplitl [H] <;> iassumption
omit [FloatOps F] in
/-- what can be taken out of the second of two can be taken out of both. -/
theorem pick_right {P A : sProp 𝕄} (B : sProp 𝕄) (h : A ⊢ iprop(P ∗ (P -∗ A))) : iprop(B ∗ A) ⊢ iprop(P ∗ (P -∗ iprop(B ∗ A))) := by
  iintro ⟨HB, HA⟩
  ihave H := h $$ HA
  icases H with ⟨H, Hk⟩
  isplitl [H]; · iexact H
  iintro H
  isplitl [HB]; · iexact HB
  iapply Hk; iexact H

/-- The staged contents of a buffer, taken out of the staged inputs and put back. -/
abbrev Staged {s : Shape} {e : EltTy} (a : Memref sig .tc .vmem s e) (X : Buf (Elt F) (a.view.loc (c : Thread nD τ))) : Prop :=
  Ins m c ⊢ iprop((a.view.loc (c : Thread nD τ) ↦{fullShare} X) ∗ ((a.view.loc (c : Thread nD τ) ↦{fullShare} X) -∗ Ins m c))

omit [FloatOps F] in
/-- The staged activations can be taken and put back; -/
theorem in_x : Staged m c (Memref.whole cc0_stg0_0) (xC m c) := pick_left _ _
omit [FloatOps F] in
/-- so can the first weights of layer 0, -/
theorem in_win0 : Staged m c (Memref.whole cc0_stg1_0) (winC m c 0) := pick_right _ (pick_left _ _)
omit [FloatOps F] in
/-- its second weights, -/
theorem in_wout0 : Staged m c (Memref.whole cc0_stg2_0) (woutC m c 0) := pick_right _ (pick_right _ (pick_left _ _))
omit [FloatOps F] in
/-- the first weights of layer 1, -/
theorem in_win1 : Staged m c (Memref.whole cc0_stg3_0) (winC m c 1) := pick_right _ (pick_right _ (pick_right _ (pick_left _ _)))
omit [FloatOps F] in
/-- its second weights, -/
theorem in_wout1 : Staged m c (Memref.whole cc0_stg4_0) (woutC m c 1) :=
  pick_right _ (pick_right _ (pick_right _ (pick_right _ (pick_left _ _))))
omit [FloatOps F] in
/-- the first weights of layer 2, -/
theorem in_win2 : Staged m c (Memref.whole cc0_stg5_0) (winC m c 2) :=
  pick_right _ (pick_right _ (pick_right _ (pick_right _ (pick_right _ (pick_left _ _)))))
omit [FloatOps F] in
/-- and its second weights. -/
theorem in_wout2 : Staged m c (Memref.whole cc0_stg6_0) (woutC m c 2) :=
  pick_right _ (pick_right _ (pick_right _ (pick_right _ (pick_right _ (pick_right _ (pick_self _))))))
end Ins

omit [FloatOps F] in
/-- Offsets written as two zeros are zero. -/
theorem hz2 : (![0, 0] : Fin 2 → Nat) = fun _ => 0 := funext fun a => by fin_cases a <;> rfl

section Reads
omit [FloatOps F] in
/-- A load of all the activations reads them as they are; -/
theorem read_x (X : S512x256.Idx → Elt F .f32) : (Memref.whole cc0_stg0_0 : Memref sig .tc .vmem S512x256 .f32).view.readAt (Elt F)
    (Rect.unit (s := S512x256) ![0, 0] S512x256.size inb_S512x256_S512x256_0_0).toLoadRect X = X := Memref.readAt_unit_zero (Elt F) cc0_stg0_0 hz2 _ X
omit [FloatOps F] in
/-- likewise of the first weights of layer 0, -/
theorem read_win0 (X : S256x512.Idx → Elt F .f32) : (Memref.whole cc0_stg1_0 : Memref sig .tc .vmem S256x512 .f32).view.readAt (Elt F)
    (Rect.unit (s := S256x512) ![0, 0] S256x512.size inb_S256x512_S256x512_0_0).toLoadRect X = X := Memref.readAt_unit_zero (Elt F) cc0_stg1_0 hz2 _ X
omit [FloatOps F] in
/-- of its second weights, -/
theorem read_wout0 (X : S512x256.Idx → Elt F .f32) : (Memref.whole cc0_stg2_0 : Memref sig .tc .vmem S512x256 .f32).view.readAt (Elt F)
    (Rect.unit (s := S512x256) ![0, 0] S512x256.size inb_S512x256_S512x256_0_0).toLoadRect X = X := Memref.readAt_unit_zero (Elt F) cc0_stg2_0 hz2 _ X
omit [FloatOps F] in
/-- of the first weights of layer 1, -/
theorem read_win1 (X : S256x512.Idx → Elt F .f32) : (Memref.whole cc0_stg3_0 : Memref sig .tc .vmem S256x512 .f32).view.readAt (Elt F)
    (Rect.unit (s := S256x512) ![0, 0] S256x512.size inb_S256x512_S256x512_0_0).toLoadRect X = X := Memref.readAt_unit_zero (Elt F) cc0_stg3_0 hz2 _ X
omit [FloatOps F] in
/-- of its second weights, -/
theorem read_wout1 (X : S512x256.Idx → Elt F .f32) : (Memref.whole cc0_stg4_0 : Memref sig .tc .vmem S512x256 .f32).view.readAt (Elt F)
    (Rect.unit (s := S512x256) ![0, 0] S512x256.size inb_S512x256_S512x256_0_0).toLoadRect X = X := Memref.readAt_unit_zero (Elt F) cc0_stg4_0 hz2 _ X
omit [FloatOps F] in
/-- of the first weights of layer 2, -/
theorem read_win2 (X : S256x512.Idx → Elt F .f32) : (Memref.whole cc0_stg5_0 : Memref sig .tc .vmem S256x512 .f32).view.readAt (Elt F)
    (Rect.unit (s := S256x512) ![0, 0] S256x512.size inb_S256x512_S256x512_0_0).toLoadRect X = X := Memref.readAt_unit_zero (Elt F) cc0_stg5_0 hz2 _ X
omit [FloatOps F] in
/-- and of its second weights. -/
theorem read_wout2 (X : S512x256.Idx → Elt F .f32) : (Memref.whole cc0_stg6_0 : Memref sig .tc .vmem S512x256 .f32).view.readAt (Elt F)
    (Rect.unit (s := S512x256) ![0, 0] S512x256.size inb_S512x256_S512x256_0_0).toLoadRect X = X := Memref.readAt_unit_zero (Elt F) cc0_stg6_0 hz2 _ X
end Reads

/-- The output's staging buffer at contents `f`. -/
abbrev outPts (c : Dev nD) (f : S512x256.Idx → Elt F .f32) : sProp 𝕄 :=
  (((c : Thread nD τ).loc cc0_stg7_0) ↦{fullShare} (f : Buf (Elt F) ((c : Thread nD τ).loc cc0_stg7_0)))

/-- A pack at any contents. -/
def slabAny (c : Dev nD) (d : Bool) (l : Fin 3) : sProp 𝕄 := iprop(∃ X, owns (c : Thread nD τ) (slabM d l) fullShare X)

end Cert.Rings

end
-- ==== Proof.Parts1.lean ====
/-
# The body up to the first receipt

The kernel's body is a chain of parts. Each theorem here runs one part, from what it needs to what it leaves.
-/
module

public import proofs.«01_k».proof.Proof.Kit

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The barrier -/

/-- What a hop still to send has before its slot is known to be free. -/
def preTok (c : Dev nD) (s : Slot) : sProp 𝕄 :=
  iprop(dutyTok ER (sendCell c s) 0 false ∗ dutyTok ER (recvCell (tgt s.1 c) s) 0 false ∗ atPos ER (sendCell c s) 0 ∅ 0)

/-- What the body starts from, beside the packs and the output. -/
def Bg (K : Dev nD × CIx → ℕ) (c : Dev nD) : sProp 𝕄 :=
  iprop(ctx m K ∗ Ins m c ∗ (∃ W, owes (c : Thread nD τ) (O₀ c) W)
    ∗ (dutyTok ER (barCell (prv c)) 0 true ∗ dutyTok ER (barCell (nxt c)) 0 false)
    ∗ (slotsAny c true ∗ slotsAny c false) ∗ (cred (tallyAt (barCell c) () 2) ∗ atPos ER (barCell c) 0 ∅ 0)
    ∗ sepL (preTok c) order ∗ sepL (recvTok c) order)

omit [FloatOps F] in
/-- The neighbours' slots complete what the hops need. -/
theorem send_toks (c : Dev nD) : iprop((barPay c true ∗ barPay c false) ∗ sepL (preTok c) order) ⊢ (sepL (sendTok c) order : sProp 𝕄) := by
  rw [sepL_eq _ _ order_nodup, sepL_eq _ _ order_nodup, ← order_univ]
  unfold sendTok barPay slotsAny
  rw [bigSep_sep', bigSep_univ_prod (fun s : Slot => iprop(∃ X, owns (c := (tgt s.1 c : Thread nD τ)) (slotM s) fullShare X)),
    bigSep_univ_eq_bigSepL [true, false] (by decide) (by decide), bigSepL_cons_cons, bigSepL_singleton]
  unfold preTok
  iintro ⟨H, Hp⟩
  isplitl [Hp] <;> iassumption

/-- The first part: the handshake with both neighbours, and the right ring's first pack. -/
theorem part1 (K : Dev nD × CIx → ℕ) (c : Dev nD) (Q : (Σ' (d0 : Dev nD) (v5 : BitVec 32), BitVec 32) → sProp 𝕄) :
    iprop(Bg m K c ∗ slabAny c true 0)
      ⊢ iprop((∀ v5 v7, iprop(St m K c 0 0 ∗ semVal (barCell c) 0 ∗ sendPay m c (true, 0, 0)) -∗ Q ⟨c, v5, v7⟩) -∗ Wp c (appl k0_part1) Q) := by
  unfold appl
  rw [k0_part1_eq_skeleton]; unfold k0_part1_skel
  simp only [semSignalWord, semWaitWord, Prog.lift, Prog.bind_op, Prog.bind_ret, Prog.pure_eq_ret, wp_deviceId]
  rw [show (⟨k0_dev1 c, k0_dev1_lt c⟩ : Dev nD) = prv c from Fin.ext (k0_dev1_eq c),
    show (⟨k0_dev2 c, k0_dev2_lt c⟩ : Dev nD) = nxt c from Fin.ext (k0_dev2_eq c)]
  unfold Bg ctx slabAny
  iintro ⟨⟨⟨#HR, #Hlev⟩, HI, ⟨%W, HO⟩, ⟨HtP, HtN⟩, ⟨Hs1, Hs2⟩, ⟨HcB, HatB⟩, Hpre, Hrecv⟩, ⟨%X, HX⟩⟩ Hk
  iapply (Rounds.wp_signal 𝒱₀ ER (ringRd m) (c : Thread nD τ) none (dst := (prv c : Thread nD τ)) (κ := K (prv c, none))
      (d := true) (by rw [duties_bar]; exact Finset.mem_univ _) ((amount_bar m (prv c) true).trans (by decide)) () (O₁ c) rfl)
    $$ [HO HtP Hs1]
  · isplitr; · iapply (inv_at m K (prv c, none)); iexact HR
    isplitl [HO]; · iexact HO
    isplitl [HtP]; · iexact HtP
    isplitl [Hs1]
    · rw [payload_bar]; unfold barPay; rw [show tgt true (prv c) = c from tgt_org true c]; iexact Hs1
    · iapply (reached_at m K (prv c, none)); iexact HR
  iintro HO
  unfold O₁
  iapply (Rounds.wp_signal 𝒱₀ ER (ringRd m) (c : Thread nD τ) none (dst := (nxt c : Thread nD τ)) (κ := K (nxt c, none))
      (d := false) (by rw [duties_bar]; exact Finset.mem_univ _) ((amount_bar m (nxt c) false).trans (by decide)) () (owedL c order) rfl)
    $$ [HO HtN Hs2]
  · isplitr; · iapply (inv_at m K (nxt c, none)); iexact HR
    isplitl [HO]; · iexact HO
    isplitl [HtN]; · iexact HtN
    isplitl [Hs2]
    · rw [payload_bar]; unfold barPay; rw [show tgt false (nxt c) = c from tgt_org false c]; iexact Hs2
    · iapply (reached_at m K (nxt c, none)); iexact HR
  iintro HO
  iapply (Rounds.wp_wait_rest_token 𝒱₀ ER (ringRd m) (c : Thread nD τ) none (κ := K (c, none))
      (wpE_semWait_eq 𝒱₀ (c : Thread nD τ) none Set.univ) (Set.mem_univ _) () (O := owedL c order) (W := W) (R := 0) (m := 0) (T := ∅)
      (by rw [expect_bar]; decide)) $$ [HcB HO HatB]
  · isplitr; · iapply (inv_at m K (c, none)); iexact HR
    isplitl [HcB]; · iexact HcB
    isplitl [HO]; · iexact HO
    isplitr; · iapply (mayWait_hops c _ 1 (lv_bar c).le order (fun s _ => by omega)); iexact Hlev
    iexact HatB
  iintro ⟨HO, HatB, -, Hpay⟩
  ihave Hp := (Entails.of_eq (rest_bar m c)) $$ Hpay
  imod (Rounds.cell_close ER (ringRd m) (Set.mem_univ (K (c, none))) (fun h => h) (R := 0 + 1) (duties_later m (barCell c))) $$ [HatB] with Hz
  · isplitr; · iapply (inv_at m K (c, none)); iexact HR
    iexact HatB
  ihave Hsend := (send_toks (F := F) c) $$ [Hp Hpre]
  · isplitl [Hp] <;> iassumption
  ihave HS := (show iprop(ctx m K ∗ Ins m c ∗ owesL c order ∗ sepL (sendTok c) order ∗ emp ∗ sepL (recvTok c) order ∗ emp) ⊢ St m K c 0 0 from .rfl) $$ [HI HO Hsend Hrecv]
  · isplitr
    · unfold ctx
      isplitl; · iexact HR
      iexact Hlev
    isplitl [HI]; · iexact HI
    isplitl [HO]; · unfold owesL; iexists _; iexact HO
    isplitl [Hsend]; · iexact Hsend
    isplitr; · iempintro
    isplitl [Hrecv]; · iexact Hrecv
    iempintro
  iapply (step_in m K c 0 0 (Memref.whole cc0_stg1_0) (in_win0 m c)) $$ HS; iintro HS
  iapply (step_peek c true 0 0 X) $$ HX; iintro %_ HX
  iapply (step_set c true 0 0 X) $$ HX; iintro HX
  iapply (step_in m K c 0 0 (Memref.whole cc0_stg2_0) (in_wout0 m c)) $$ HS; iintro HS
  iapply (step_peek c true 0 1 _) $$ HX; iintro %_ HX
  iapply (step_set c true 0 1 _) $$ HX; iintro HX
  iapply (step_ret c)
  iapply Hk
  isplitl [HS]; · iexact HS
  isplitl [Hz]; · iexact Hz
  iapply (pack_done m c true 0 _ rfl rfl); iexact HX

/-- The second: the left ring's first pack, the first copy to the right. -/
theorem part2 (K : Dev nD × CIx → ℕ) (c : Dev nD) (v5 v7 : BitVec 32) (Q : (Σ' (v47 : BitVec 32), BitVec 32) → sProp 𝕄) :
    iprop(St m K c 0 0 ∗ sendPay m c (true, 0, 0) ∗ slabAny c false 0)
      ⊢ iprop((∀ v, iprop(St m K c 1 0 ∗ sendPay m c (false, 0, 0)) -∗ Q v) -∗ Wp c (appl k0_part2 c v5 v7) Q) := by
  unfold appl slabAny
  rw [k0_part2_eq_skeleton]; unfold k0_part2_skel
  simp only [Prog.lift, Prog.bind_op, Prog.bind_ret, Prog.pure_eq_ret]
  iintro ⟨HS, H1, ⟨%X, HX⟩⟩ Hk
  iapply (step_in m K c 0 0 (Memref.whole cc0_stg1_0) (in_win0 m c)) $$ HS; iintro HS
  iapply (step_peek c false 0 0 X) $$ HX; iintro %_ HX
  iapply (step_set c false 0 0 X) $$ HX; iintro HX
  iapply (step_in m K c 0 0 (Memref.whole cc0_stg2_0) (in_wout0 m c)) $$ HS; iintro HS
  iapply (step_peek c false 0 1 _) $$ HX; iintro %_ HX
  iapply (step_set c false 0 1 _) $$ HX; iintro HX
  iapply (step_send m K c (true, 0, 0) 0 0 rfl (Fin.ext (k0_dev3_eq c))) $$ [HS H1]
  · isplitl [HS] <;> iassumption
  iintro HS
  iapply (step_ret c)
  iapply Hk
  isplitl [HS]; · iexact HS
  iapply (pack_done m c false 0 _ rfl rfl); iexact HX

omit [FloatOps F] in
/-- A load of the lower 256 rows of the second weights reads the left ring's half of them. -/
theorem read_out_left (X : S512x256.Idx → Elt F .f32) :
    (Memref.whole cc0_stg4_0 : Memref sig .tc .vmem S512x256 .f32).view.readAt (Elt F) (Rect.unit (s := S512x256) ![256, 0] S256x256.size inb_S512x256_S256x256_256_0).toLoadRect X
      = outHalf X false := rfl

/-- The third: the first copy to the left, the right ring's second pack, half of the left ring's. -/
theorem part3 (K : Dev nD × CIx → ℕ) (c : Dev nD) (v47 v48 : BitVec 32) (Q : FVec F S256x256 .bf16 → sProp 𝕄) :
    iprop(St m K c 1 0 ∗ sendPay m c (false, 0, 0) ∗ slabAny c true 1 ∗ slabAny c false 1)
      ⊢ iprop((∀ X, iprop(St m K c 2 0 ∗ sendPay m c (true, 1, 0)
            ∗ owns (c : Thread nD τ) (slabM false 1) fullShare (setRow X 0 (k0_pay1 (inHalf (winC m c 1) false))))
          -∗ Q (k0_pay8 (outHalf (woutC m c 1) false))) -∗ Wp c (appl k0_part3 c v47 v48) Q) := by
  unfold appl slabAny
  rw [k0_part3_eq_skeleton]; unfold k0_part3_skel
  simp only [Prog.lift, Prog.bind_op, Prog.bind_ret, Prog.pure_eq_ret]
  iintro ⟨HS, H1, ⟨%X, HX⟩, ⟨%Y, HY⟩⟩ Hk
  iapply (step_send m K c (false, 0, 0) 1 0 rfl (Fin.ext (k0_dev4_eq c))) $$ [HS H1]
  · isplitl [HS] <;> iassumption
  iintro HS
  iapply (step_in m K c 2 0 (Memref.whole cc0_stg3_0) (in_win1 m c)) $$ HS; iintro HS
  iapply (step_peek c true 1 0 X) $$ HX; iintro %_ HX
  iapply (step_set c true 1 0 X) $$ HX; iintro HX
  iapply (step_in m K c 2 0 (Memref.whole cc0_stg4_0) (in_wout1 m c)) $$ HS; iintro HS
  iapply (step_peek c true 1 1 _) $$ HX; iintro %_ HX
  iapply (step_set c true 1 1 _) $$ HX; iintro HX
  iapply (step_in m K c 2 0 (Memref.whole cc0_stg3_0) (in_win1 m c)) $$ HS; iintro HS
  iapply (step_peek c false 1 0 Y) $$ HY; iintro %_ HY
  iapply (step_set c false 1 0 Y) $$ HY; iintro HY
  iapply (step_whole m K c 2 0 (Memref.whole cc0_stg4_0) (in_wout1 m c) (read_out_left _)) $$ HS; iintro HS
  iapply (step_ret c)
  iapply Hk $$ %Y
  isplitl [HS]; · iexact HS
  isplitl [HX]; · iapply (pack_done m c true 1 _ rfl rfl); iexact HX
  iexact HY

/-- The fourth: the rest of the left ring's second pack, the second copies. -/
theorem part4 (K : Dev nD × CIx → ℕ) (c : Dev nD) (v5 v7 : BitVec 32) (X : S2x256x256.Idx → Elt F .bf16) (Q : PUnit → sProp 𝕄) :
    iprop(St m K c 2 0 ∗ sendPay m c (true, 1, 0) ∗ owns (c : Thread nD τ) (slabM false 1) fullShare (setRow X 0 (k0_pay1 (inHalf (winC m c 1) false))))
      ⊢ iprop((St m K c 4 0 -∗ Q ⟨⟩) -∗ Wp c (appl k0_part4 c v5 v7 (k0_pay8 (outHalf (woutC m c 1) false))) Q) := by
  unfold appl
  rw [k0_part4_eq_skeleton]; unfold k0_part4_skel
  simp only [Prog.lift, Prog.bind_op, Prog.bind_ret, Prog.pure_eq_ret]
  iintro ⟨HS, H1, HX⟩ Hk
  iapply (step_peek c false 1 1 _) $$ HX; iintro %_ HX
  iapply (step_set c false 1 1 _) $$ HX; iintro HX
  iapply (step_send m K c (true, 1, 0) 2 0 rfl (Fin.ext (k0_dev5_eq c))) $$ [HS H1]
  · isplitl [HS] <;> iassumption
  iintro HS
  ihave H2 := (pack_done m c false 1 X (u := k0_pay1 (inHalf (winC m c 1) false)) (v := k0_pay9 (k0_pay8 (outHalf (woutC m c 1) false))) rfl rfl) $$ HX
  iapply (step_send m K c (false, 1, 0) 3 0 rfl (Fin.ext (k0_dev6_eq c))) $$ [HS H2]
  · isplitl [HS] <;> iassumption
  iintro HS
  iapply (step_ret c)
  iapply Hk
  iexact HS

/-- The fifth: the third packs. -/
theorem part5 (K : Dev nD × CIx → ℕ) (c : Dev nD) (Q : BitVec 32 → sProp 𝕄) :
    iprop(St m K c 4 0 ∗ slabAny c true 2 ∗ slabAny c false 2)
      ⊢ iprop((∀ v, iprop(St m K c 4 0 ∗ sendPay m c (true, 2, 0) ∗ sendPay m c (false, 2, 0)) -∗ Q v) -∗ Wp c (appl k0_part5) Q) := by
  unfold appl slabAny
  rw [k0_part5_eq_skeleton]; unfold k0_part5_skel
  simp only [Prog.lift, Prog.bind_op, Prog.bind_ret, Prog.pure_eq_ret]
  iintro ⟨HS, ⟨%X, HX⟩, ⟨%Y, HY⟩⟩ Hk
  iapply (step_in m K c 4 0 (Memref.whole cc0_stg5_0) (in_win2 m c)) $$ HS; iintro HS
  iapply (step_peek c true 2 0 X) $$ HX; iintro %_ HX
  iapply (step_set c true 2 0 X) $$ HX; iintro HX
  iapply (step_in m K c 4 0 (Memref.whole cc0_stg6_0) (in_wout2 m c)) $$ HS; iintro HS
  iapply (step_peek c true 2 1 _) $$ HX; iintro %_ HX
  iapply (step_set c true 2 1 _) $$ HX; iintro HX
  iapply (step_in m K c 4 0 (Memref.whole cc0_stg5_0) (in_win2 m c)) $$ HS; iintro HS
  iapply (step_peek c false 2 0 Y) $$ HY; iintro %_ HY
  iapply (step_set c false 2 0 Y) $$ HY; iintro HY
  iapply (step_in m K c 4 0 (Memref.whole cc0_stg6_0) (in_wout2 m c)) $$ HS; iintro HS
  iapply (step_peek c false 2 1 _) $$ HY; iintro %_ HY
  iapply (step_set c false 2 1 _) $$ HY; iintro HY
  iapply (step_ret c)
  iapply Hk
  isplitl [HS]; · iexact HS
  isplitl [HX]; · iapply (pack_done m c true 2 _ rfl rfl); iexact HX
  iapply (pack_done m c false 2 _ rfl rfl); iexact HY

/-- The sixth: the third copies, the activations and the first weights read. -/
theorem part6 (K : Dev nD × CIx → ℕ) (c : Dev nD) (v5 v7 v8 : BitVec 32) (Q : (Σ' (v147 : FVec F S512x256 .bf16), FVec F S512x512 .bf16) → sProp 𝕄) :
    iprop(St m K c 4 0 ∗ sendPay m c (true, 2, 0) ∗ sendPay m c (false, 2, 0))
      ⊢ iprop((St m K c 6 0 -∗ Q ⟨k0_pay14 (xC m c), k0_pay15 (xC m c) (winC m c 0)⟩) -∗ Wp c (appl k0_part6 c v5 v7 v8) Q) := by
  unfold appl
  rw [k0_part6_eq_skeleton]; unfold k0_part6_skel
  simp only [Prog.lift, Prog.bind_op, Prog.bind_ret, Prog.pure_eq_ret]
  iintro ⟨HS, H1, H2⟩ Hk
  iapply (step_send m K c (true, 2, 0) 4 0 rfl (Fin.ext (k0_dev7_eq c))) $$ [HS H1]
  · isplitl [HS] <;> iassumption
  iintro HS
  iapply (step_send m K c (false, 2, 0) 5 0 rfl (Fin.ext (k0_dev8_eq c))) $$ [HS H2]
  · isplitl [HS] <;> iassumption
  iintro HS
  iapply (step_whole m K c 6 0 (Memref.whole cc0_stg0_0) (in_x m c) (read_x _)) $$ HS; iintro HS
  iapply (step_whole m K c 6 0 (Memref.whole cc0_stg1_0) (in_win0 m c) (read_win0 _)) $$ HS; iintro HS
  iapply (step_ret c)
  iapply Hk
  iexact HS

end Cert.Rings

end
-- ==== Proof.Parts2.lean ====
/-
# The body through the first hop

The kernel's body is a chain of parts. Each theorem here runs one part, from what it needs to what it leaves.
-/
module

public import proofs.«01_k».proof.Proof.Kit

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The seventh part: the second weights read, the first slots received. -/
theorem part7 (K : Dev nD × CIx → ℕ) (c : Dev nD) (v5 v7 : BitVec 32) (v154 : FVec F S512x512 .bf16) (Q : FVec F S512x256 .f32 → sProp 𝕄) :
    St m K c 6 0 ⊢ iprop((iprop(St m K c 6 2 ∗ sendPay m c (true, 0, 1) ∗ sendPay m c (false, 0, 1)) -∗ Q (k0_pay16 v154 (woutC m c 0)))
      -∗ Wp c (appl k0_part7 v5 v7 v154) Q) := by
  unfold appl
  rw [k0_part7_eq_skeleton]; unfold k0_part7_skel
  simp only [Prog.lift, Prog.bind_op, Prog.bind_ret, Prog.pure_eq_ret]
  iintro HS Hk
  iapply (step_whole m K c 6 0 (Memref.whole cc0_stg2_0) (in_wout0 m c) (read_wout0 _)) $$ HS; iintro HS
  iapply (step_recv m K c (true, 0, 0) 6 0 rfl (by decide) (slot_credit (true, 0, 0)) _ (keep_forward m c true 0 0 1 rfl)) $$ HS; iintro ⟨HS, H1⟩
  iapply (step_recv m K c (false, 0, 0) 6 1 rfl (by decide) (slot_credit (false, 0, 0)) _ (keep_forward m c false 0 0 1 rfl)) $$ HS; iintro ⟨HS, H2⟩
  iapply (step_ret c)
  iapply Hk
  isplitl [HS]; · iexact HS
  isplitl [H1] <;> iassumption

/-- The eighth: they are forwarded. -/
theorem part8 (K : Dev nD × CIx → ℕ) (c : Dev nD) (v5 v7 : BitVec 32) (v147 : FVec F S512x256 .bf16) (Q : (Σ' (v197 : FVec F S512x256 .f32), FVec F S512x256 .f32) → sProp 𝕄) :
    iprop(St m K c 6 2 ∗ sendPay m c (true, 0, 1) ∗ sendPay m c (false, 0, 1))
      ⊢ iprop((St m K c 8 2 -∗ Q ⟨k0_pay17 v147 (row (landV m c (true, 0, 0)) 0), k0_pay18⟩) -∗ Wp c (appl k0_part8 c v5 v7 v147) Q) := by
  unfold appl
  rw [k0_part8_eq_skeleton]; unfold k0_part8_skel
  simp only [Prog.lift, Prog.bind_op, Prog.bind_ret, Prog.pure_eq_ret]
  iintro ⟨HS, H1, H2⟩ Hk
  iapply (step_send m K c (true, 0, 1) 6 2 rfl (Fin.ext (k0_dev9_eq c))) $$ [HS H1]
  · isplitl [HS] <;> iassumption
  iintro HS
  iapply (step_send m K c (false, 0, 1) 7 2 rfl (Fin.ext (k0_dev10_eq c))) $$ [HS H2]
  · isplitl [HS] <;> iassumption
  iintro HS
  iapply (step_row m K c true 0 0 0 8 2 (by decide)) $$ HS; iintro HS
  iapply (step_ret c)
  iapply Hk
  iexact HS

/-- The ninth: their products, the right ring's second slot received. -/
theorem part9 (K : Dev nD × CIx → ℕ) (c : Dev nD) (v7 : BitVec 32) (v147 : FVec F S512x256 .bf16) (v158 v197 v198 : FVec F S512x256 .f32) (Q : FVec F S512x256 .f32 → sProp 𝕄) :
    St m K c 8 2 ⊢ iprop((iprop(St m K c 8 3 ∗ sendPay m c (true, 1, 1))
        -∗ Q (k0_pay19 v147 v158 v197 v198 (row (landV m c (true, 0, 0)) 1) (row (landV m c (false, 0, 0)) 0) (row (landV m c (false, 0, 0)) 1)))
      -∗ Wp c (appl k0_part9 v7 v147 v158 v197 v198) Q) := by
  unfold appl
  rw [k0_part9_eq_skeleton]; unfold k0_part9_skel
  simp only [Prog.lift, Prog.bind_op, Prog.bind_ret, Prog.pure_eq_ret]
  iintro HS Hk
  iapply (step_row m K c true 0 0 1 8 2 (by decide)) $$ HS; iintro HS
  iapply (step_row m K c false 0 0 0 8 2 (by decide)) $$ HS; iintro HS
  iapply (step_row m K c false 0 0 1 8 2 (by decide)) $$ HS; iintro HS
  iapply (step_recv m K c (true, 1, 0) 8 2 rfl (by decide) (slot_credit (true, 1, 0)) _ (keep_forward m c true 1 0 1 rfl)) $$ HS; iintro ⟨HS, H1⟩
  iapply (step_ret c)
  iapply Hk
  isplitl [HS] <;> iassumption

/-- The tenth: it is forwarded, the left ring's second slot received. -/
theorem part10 (K : Dev nD × CIx → ℕ) (c : Dev nD) (v5 v7 : BitVec 32) (Q : BitVec 32 → sProp 𝕄) :
    iprop(St m K c 8 3 ∗ sendPay m c (true, 1, 1))
      ⊢ iprop((∀ v, iprop(St m K c 9 4 ∗ sendPay m c (false, 1, 1)) -∗ Q v) -∗ Wp c (appl k0_part10 c v5 v7) Q) := by
  unfold appl
  rw [k0_part10_eq_skeleton]; unfold k0_part10_skel
  simp only [Prog.lift, Prog.bind_op, Prog.bind_ret, Prog.pure_eq_ret]
  iintro ⟨HS, H1⟩ Hk
  iapply (step_recv m K c (false, 1, 0) 8 3 rfl (by decide) (slot_credit (false, 1, 0)) _ (keep_forward m c false 1 0 1 rfl)) $$ HS; iintro ⟨HS, H2⟩
  iapply (step_send m K c (true, 1, 1) 8 4 rfl (Fin.ext (k0_dev11_eq c))) $$ [HS H1]
  · isplitl [HS] <;> iassumption
  iintro HS
  iapply (step_ret c)
  iapply Hk
  isplitl [HS] <;> iassumption

/-- The eleventh: it is forwarded, the right ring's third slot received. -/
theorem part11 (K : Dev nD × CIx → ℕ) (c : Dev nD) (v5 v7 v8 : BitVec 32) (Q : PUnit → sProp 𝕄) :
    iprop(St m K c 9 4 ∗ sendPay m c (false, 1, 1))
      ⊢ iprop((iprop(St m K c 10 5 ∗ sendPay m c (true, 2, 1)) -∗ Q ⟨⟩) -∗ Wp c (appl k0_part11 c v5 v7 v8) Q) := by
  unfold appl
  rw [k0_part11_eq_skeleton]; unfold k0_part11_skel
  simp only [Prog.lift, Prog.bind_op, Prog.bind_ret, Prog.pure_eq_ret]
  iintro ⟨HS, H1⟩ Hk
  iapply (step_send m K c (false, 1, 1) 9 4 rfl (Fin.ext (k0_dev12_eq c))) $$ [HS H1]
  · isplitl [HS] <;> iassumption
  iintro HS
  iapply (step_recv m K c (true, 2, 0) 10 4 rfl (by decide) (slot_credit (true, 2, 0)) _ (keep_forward m c true 2 0 1 rfl)) $$ HS; iintro ⟨HS, H2⟩
  iapply (step_ret c)
  iapply Hk
  isplitl [HS] <;> iassumption

/-- The twelfth: the left ring's third slot received, both forwarded. -/
theorem part12 (K : Dev nD × CIx → ℕ) (c : Dev nD) (v5 v7 : BitVec 32) (Q : PUnit → sProp 𝕄) :
    iprop(St m K c 10 5 ∗ sendPay m c (true, 2, 1)) ⊢ iprop((St m K c 12 6 -∗ Q ⟨⟩) -∗ Wp c (appl k0_part12 c v5 v7) Q) := by
  unfold appl
  rw [k0_part12_eq_skeleton]; unfold k0_part12_skel
  simp only [Prog.lift, Prog.bind_op, Prog.bind_ret, Prog.pure_eq_ret]
  iintro ⟨HS, H1⟩ Hk
  iapply (step_recv m K c (false, 2, 0) 10 5 rfl (by decide) (slot_credit (false, 2, 0)) _ (keep_forward m c false 2 0 1 rfl)) $$ HS; iintro ⟨HS, H2⟩
  iapply (step_send m K c (true, 2, 1) 10 6 rfl (Fin.ext (k0_dev13_eq c))) $$ [HS H1]
  · isplitl [HS] <;> iassumption
  iintro HS
  iapply (step_send m K c (false, 2, 1) 11 6 rfl (Fin.ext (k0_dev14_eq c))) $$ [HS H2]
  · isplitl [HS] <;> iassumption
  iintro HS
  iapply (step_ret c)
  iapply Hk
  iexact HS

/-- The thirteenth: the second hop's first slots received. -/
theorem part13 (K : Dev nD × CIx → ℕ) (c : Dev nD) (v5 v7 : BitVec 32) (Q : (Σ' (v303 : BitVec 32), BitVec 32) → sProp 𝕄) :
    St m K c 12 6 ⊢ iprop((∀ v, iprop(St m K c 12 8 ∗ sendPay m c (true, 0, 2) ∗ sendPay m c (false, 0, 2)) -∗ Q v) -∗ Wp c (appl k0_part13 v5 v7) Q) := by
  unfold appl
  rw [k0_part13_eq_skeleton]; unfold k0_part13_skel
  simp only [Prog.lift, Prog.bind_op, Prog.bind_ret, Prog.pure_eq_ret]
  iintro HS Hk
  iapply (step_recv m K c (true, 0, 1) 12 6 rfl (by decide) (slot_credit (true, 0, 1)) _ (keep_forward m c true 0 1 2 rfl)) $$ HS; iintro ⟨HS, H1⟩
  iapply (step_recv m K c (false, 0, 1) 12 7 rfl (by decide) (slot_credit (false, 0, 1)) _ (keep_forward m c false 0 1 2 rfl)) $$ HS; iintro ⟨HS, H2⟩
  iapply (step_ret c)
  iapply Hk
  isplitl [HS]; · iexact HS
  isplitl [H1] <;> iassumption

end Cert.Rings

end
-- ==== Proof.Parts3.lean ====
/-
# The body through the second hop

The kernel's body is a chain of parts. Each theorem here runs one part, from what it needs to what it leaves.
-/
module

public import proofs.«01_k».proof.Proof.Kit

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The fourteenth part: the second hop's first slots forwarded. -/
theorem part14 (K : Dev nD × CIx → ℕ) (c : Dev nD) (v5 : BitVec 32) (v147 : FVec F S512x256 .bf16) (v303 v304 : BitVec 32) (Q : FVec F S512x256 .bf16 → sProp 𝕄) :
    iprop(St m K c 12 8 ∗ sendPay m c (true, 0, 2) ∗ sendPay m c (false, 0, 2))
      ⊢ iprop((St m K c 14 8 -∗ Q (k0_pay20 v147 (row (landV m c (true, 0, 1)) 0))) -∗ Wp c (appl k0_part14 c v5 v147 v303 v304) Q) := by
  unfold appl
  rw [k0_part14_eq_skeleton]; unfold k0_part14_skel
  simp only [Prog.lift, Prog.bind_op, Prog.bind_ret, Prog.pure_eq_ret]
  iintro ⟨HS, H1, H2⟩ Hk
  iapply (step_send m K c (true, 0, 2) 12 8 rfl (Fin.ext (k0_dev15_eq c))) $$ [HS H1]
  · isplitl [HS] <;> iassumption
  iintro HS
  iapply (step_send m K c (false, 0, 2) 13 8 rfl (Fin.ext (k0_dev16_eq c))) $$ [HS H2]
  · isplitl [HS] <;> iassumption
  iintro HS
  iapply (step_row m K c true 0 1 0 14 8 (by decide)) $$ HS; iintro HS
  iapply (step_ret c)
  iapply Hk
  iexact HS

/-- The fifteenth: their products, the right ring's second slot received. -/
theorem part15 (K : Dev nD × CIx → ℕ) (c : Dev nD) (v7 : BitVec 32) (v147 : FVec F S512x256 .bf16) (v214 : FVec F S512x256 .f32) (v328 : FVec F S512x256 .bf16) (Q : FVec F S512x256 .f32 → sProp 𝕄) :
    St m K c 14 8 ⊢ iprop((iprop(St m K c 14 9 ∗ sendPay m c (true, 1, 2))
        -∗ Q (k0_pay21 v147 v214 v328 (row (landV m c (true, 0, 1)) 1) (row (landV m c (false, 0, 1)) 0) (row (landV m c (false, 0, 1)) 1)))
      -∗ Wp c (appl k0_part15 v7 v147 v214 v328) Q) := by
  unfold appl
  rw [k0_part15_eq_skeleton]; unfold k0_part15_skel
  simp only [Prog.lift, Prog.bind_op, Prog.bind_ret, Prog.pure_eq_ret]
  iintro HS Hk
  iapply (step_row m K c true 0 1 1 14 8 (by decide)) $$ HS; iintro HS
  iapply (step_row m K c false 0 1 0 14 8 (by decide)) $$ HS; iintro HS
  iapply (step_row m K c false 0 1 1 14 8 (by decide)) $$ HS; iintro HS
  iapply (step_recv m K c (true, 1, 1) 14 8 rfl (by decide) (slot_credit (true, 1, 1)) _ (keep_forward m c true 1 1 2 rfl)) $$ HS; iintro ⟨HS, H1⟩
  iapply (step_ret c)
  iapply Hk
  isplitl [HS] <;> iassumption

/-- The sixteenth: it is forwarded, the left ring's second slot received. -/
theorem part16 (K : Dev nD × CIx → ℕ) (c : Dev nD) (v5 v7 : BitVec 32) (Q : PUnit → sProp 𝕄) :
    iprop(St m K c 14 9 ∗ sendPay m c (true, 1, 2))
      ⊢ iprop((iprop(St m K c 15 10 ∗ sendPay m c (false, 1, 2)) -∗ Q ⟨⟩) -∗ Wp c (appl k0_part16 c v5 v7) Q) := by
  unfold appl
  rw [k0_part16_eq_skeleton]; unfold k0_part16_skel
  simp only [Prog.lift, Prog.bind_op, Prog.bind_ret, Prog.pure_eq_ret]
  iintro ⟨HS, H1⟩ Hk
  iapply (step_recv m K c (false, 1, 1) 14 9 rfl (by decide) (slot_credit (false, 1, 1)) _ (keep_forward m c false 1 1 2 rfl)) $$ HS; iintro ⟨HS, H2⟩
  iapply (step_send m K c (true, 1, 2) 14 10 rfl (Fin.ext (k0_dev17_eq c))) $$ [HS H1]
  · isplitl [HS] <;> iassumption
  iintro HS
  iapply (step_ret c)
  iapply Hk
  isplitl [HS] <;> iassumption

/-- The seventeenth: it is forwarded, the right ring's third slot received. -/
theorem part17 (K : Dev nD × CIx → ℕ) (c : Dev nD) (v5 v7 : BitVec 32) (Q : PUnit → sProp 𝕄) :
    iprop(St m K c 15 10 ∗ sendPay m c (false, 1, 2))
      ⊢ iprop((iprop(St m K c 16 11 ∗ sendPay m c (true, 2, 2)) -∗ Q ⟨⟩) -∗ Wp c (appl k0_part17 c v5 v7) Q) := by
  unfold appl
  rw [k0_part17_eq_skeleton]; unfold k0_part17_skel
  simp only [Prog.lift, Prog.bind_op, Prog.bind_ret, Prog.pure_eq_ret]
  iintro ⟨HS, H1⟩ Hk
  iapply (step_send m K c (false, 1, 2) 15 10 rfl (Fin.ext (k0_dev18_eq c))) $$ [HS H1]
  · isplitl [HS] <;> iassumption
  iintro HS
  iapply (step_recv m K c (true, 2, 1) 16 10 rfl (by decide) (slot_credit (true, 2, 1)) _ (keep_forward m c true 2 1 2 rfl)) $$ HS; iintro ⟨HS, H2⟩
  iapply (step_ret c)
  iapply Hk
  isplitl [HS] <;> iassumption

/-- The eighteenth: the left ring's third slot received, both forwarded. -/
theorem part18 (K : Dev nD × CIx → ℕ) (c : Dev nD) (v5 v7 : BitVec 32) (Q : PUnit → sProp 𝕄) :
    iprop(St m K c 16 11 ∗ sendPay m c (true, 2, 2)) ⊢ iprop((St m K c 18 12 -∗ Q ⟨⟩) -∗ Wp c (appl k0_part18 c v5 v7) Q) := by
  unfold appl
  rw [k0_part18_eq_skeleton]; unfold k0_part18_skel
  simp only [Prog.lift, Prog.bind_op, Prog.bind_ret, Prog.pure_eq_ret]
  iintro ⟨HS, H1⟩ Hk
  iapply (step_recv m K c (false, 2, 1) 16 11 rfl (by decide) (slot_credit (false, 2, 1)) _ (keep_forward m c false 2 1 2 rfl)) $$ HS; iintro ⟨HS, H2⟩
  iapply (step_send m K c (true, 2, 2) 16 12 rfl (Fin.ext (k0_dev19_eq c))) $$ [HS H1]
  · isplitl [HS] <;> iassumption
  iintro HS
  iapply (step_send m K c (false, 2, 2) 17 12 rfl (Fin.ext (k0_dev20_eq c))) $$ [HS H2]
  · isplitl [HS] <;> iassumption
  iintro HS
  iapply (step_ret c)
  iapply Hk
  iexact HS

/-- The nineteenth: the last hop's first slots received. -/
theorem part19 (K : Dev nD × CIx → ℕ) (c : Dev nD) (v5 v7 : BitVec 32) (v147 : FVec F S512x256 .bf16) (Q : FVec F S512x256 .bf16 → sProp 𝕄) :
    St m K c 18 12 ⊢ iprop((St m K c 18 14 -∗ Q (k0_pay22 v147 (row (landV m c (true, 0, 2)) 0))) -∗ Wp c (appl k0_part19 v5 v7 v147) Q) := by
  unfold appl
  rw [k0_part19_eq_skeleton]; unfold k0_part19_skel
  simp only [Prog.lift, Prog.bind_op, Prog.bind_ret, Prog.pure_eq_ret]
  iintro HS Hk
  iapply (step_recv m K c (true, 0, 2) 18 12 rfl (by decide) (slot_credit (true, 0, 2)) _ (keep_last m c true 0)) $$ HS; iintro ⟨HS, -⟩
  iapply (step_recv m K c (false, 0, 2) 18 13 rfl (by decide) (slot_credit (false, 0, 2)) _ (keep_last m c false 0)) $$ HS; iintro ⟨HS, -⟩
  iapply (step_row m K c true 0 2 0 18 14 (by decide)) $$ HS; iintro HS
  iapply (step_ret c)
  iapply Hk
  iexact HS

end Cert.Rings

end
-- ==== Proof.Parts4.lean ====
/-
# The body through the last hop

The kernel's body is a chain of parts. Each theorem here runs one part, from what it needs to what it leaves.
-/
module

public import proofs.«01_k».proof.Proof.Kit

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The twentieth part: the first layer's last products, the second layer's own. -/
theorem part20 (K : Dev nD × CIx → ℕ) (c : Dev nD) (v147 : FVec F S512x256 .bf16) (v342 : FVec F S512x256 .f32) (v436 : FVec F S512x256 .bf16)
    (Q : (Σ' (v451 : FVec F S512x256 .bf16) (v462 : FVec F S512x256 .f32) (v464 : FVec F S256x256 .bf16), FVec F S512x256 .f32) → sProp 𝕄) :
    St m K c 18 14 ⊢ iprop((St m K c 18 14 -∗ Q ⟨k0_pay23 v147 v342 v436 (row (landV m c (true, 0, 2)) 1) (row (landV m c (false, 0, 2)) 0) (row (landV m c (false, 0, 2)) 1),
        k0_pay24 v147 v342 v436 (row (landV m c (true, 0, 2)) 1) (row (landV m c (false, 0, 2)) 0) (row (landV m c (false, 0, 2)) 1) (winC m c 1) (woutC m c 1),
        k0_pay25 (row (landV m c (true, 1, 0)) 0), constant S512x256 .f32 0x00000000#32⟩) -∗ Wp c (appl k0_part20 v147 v342 v436) Q) := by
  unfold appl
  rw [k0_part20_eq_skeleton]; unfold k0_part20_skel
  simp only [Prog.lift, Prog.bind_op, Prog.bind_ret, Prog.pure_eq_ret]
  iintro HS Hk
  iapply (step_row m K c true 0 2 1 18 14 (by decide)) $$ HS; iintro HS
  iapply (step_row m K c false 0 2 0 18 14 (by decide)) $$ HS; iintro HS
  iapply (step_row m K c false 0 2 1 18 14 (by decide)) $$ HS; iintro HS
  iapply (step_whole m K c 18 14 (Memref.whole cc0_stg3_0) (in_win1 m c) (read_win1 _)) $$ HS; iintro HS
  iapply (step_whole m K c 18 14 (Memref.whole cc0_stg4_0) (in_wout1 m c) (read_wout1 _)) $$ HS; iintro HS
  iapply (step_row m K c true 1 0 0 18 14 (by decide)) $$ HS; iintro HS
  iapply (step_ret c)
  iapply Hk
  iexact HS

/-- The twenty-first: the second layer's products of the first hop. -/
theorem part21 (K : Dev nD × CIx → ℕ) (c : Dev nD) (v451 : FVec F S512x256 .bf16) (v462 : FVec F S512x256 .f32) (v464 : FVec F S256x256 .bf16) (v465 : FVec F S512x256 .f32)
    (Q : (Σ' (v482 : FVec F S512x256 .f32), FVec F S512x256 .f32) → sProp 𝕄) :
    St m K c 18 14 ⊢ iprop((St m K c 18 14 -∗ Q ⟨k0_pay26 v451 v462 v464 v465 (row (landV m c (true, 1, 0)) 1) (row (landV m c (false, 1, 0)) 0) (row (landV m c (false, 1, 0)) 1),
        k0_pay27 v451 (row (landV m c (true, 1, 1)) 0) (row (landV m c (true, 1, 1)) 1)⟩) -∗ Wp c (appl k0_part21 v451 v462 v464 v465) Q) := by
  unfold appl
  rw [k0_part21_eq_skeleton]; unfold k0_part21_skel
  simp only [Prog.lift, Prog.bind_op, Prog.bind_ret, Prog.pure_eq_ret]
  iintro HS Hk
  iapply (step_row m K c true 1 0 1 18 14 (by decide)) $$ HS; iintro HS
  iapply (step_row m K c false 1 0 0 18 14 (by decide)) $$ HS; iintro HS
  iapply (step_row m K c false 1 0 1 18 14 (by decide)) $$ HS; iintro HS
  iapply (step_row m K c true 1 1 0 18 14 (by decide)) $$ HS; iintro HS
  iapply (step_row m K c true 1 1 1 18 14 (by decide)) $$ HS; iintro HS
  iapply (step_ret c)
  iapply Hk
  iexact HS

/-- The twenty-second: its products of the second hop, the right ring's last slot of it received. -/
theorem part22 (K : Dev nD × CIx → ℕ) (c : Dev nD) (v5 v7 : BitVec 32) (v451 : FVec F S512x256 .bf16) (v482 v491 : FVec F S512x256 .f32)
    (Q : (Σ' (v502 : FVec F S512x256 .f32) (v511 : BitVec 32), BitVec 32) → sProp 𝕄) :
    St m K c 18 14 ⊢ iprop((∀ w w', St m K c 18 15 -∗ Q ⟨k0_pay28 v451 v482 v491 (row (landV m c (false, 1, 1)) 0) (row (landV m c (false, 1, 1)) 1), w, w'⟩)
      -∗ Wp c (appl k0_part22 v5 v7 v451 v482 v491) Q) := by
  unfold appl
  rw [k0_part22_eq_skeleton]; unfold k0_part22_skel
  simp only [Prog.lift, Prog.bind_op, Prog.bind_ret, Prog.pure_eq_ret]
  iintro HS Hk
  iapply (step_row m K c false 1 1 0 18 14 (by decide)) $$ HS; iintro HS
  iapply (step_row m K c false 1 1 1 18 14 (by decide)) $$ HS; iintro HS
  iapply (step_recv m K c (true, 1, 2) 18 14 rfl (by decide) (slot_credit (true, 1, 2)) _ (keep_last m c true 1)) $$ HS; iintro ⟨HS, -⟩
  iapply (step_ret c)
  iapply Hk
  iexact HS

/-- The twenty-third: the left ring's received, the products of both. -/
theorem part23 (K : Dev nD × CIx → ℕ) (c : Dev nD) (v451 : FVec F S512x256 .bf16) (v502 : FVec F S512x256 .f32) (w w' : BitVec 32) (Q : FVec F S512x256 .f32 → sProp 𝕄) :
    St m K c 18 15 ⊢ iprop((St m K c 18 16 -∗ Q (k0_pay29 v451 v502 (row (landV m c (true, 1, 2)) 0) (row (landV m c (true, 1, 2)) 1) (row (landV m c (false, 1, 2)) 0) (row (landV m c (false, 1, 2)) 1)))
      -∗ Wp c (appl k0_part23 v451 v502 w w') Q) := by
  unfold appl
  rw [k0_part23_eq_skeleton]; unfold k0_part23_skel
  simp only [Prog.lift, Prog.bind_op, Prog.bind_ret, Prog.pure_eq_ret]
  iintro HS Hk
  iapply (step_recv m K c (false, 1, 2) 18 15 rfl (by decide) (slot_credit (false, 1, 2)) _ (keep_last m c false 1)) $$ HS; iintro ⟨HS, -⟩
  iapply (step_row m K c true 1 2 0 18 16 (by decide)) $$ HS; iintro HS
  iapply (step_row m K c true 1 2 1 18 16 (by decide)) $$ HS; iintro HS
  iapply (step_row m K c false 1 2 0 18 16 (by decide)) $$ HS; iintro HS
  iapply (step_row m K c false 1 2 1 18 16 (by decide)) $$ HS; iintro HS
  iapply (step_ret c)
  iapply Hk
  iexact HS

/-- The twenty-fourth: the third layer's own products, and of the first hop. -/
theorem part24 (K : Dev nD × CIx → ℕ) (c : Dev nD) (v538 : FVec F S512x256 .f32)
    (Q : (Σ' (v539 : FVec F S512x256 .bf16) (v550 : FVec F S512x256 .f32) (v559 : FVec F S512x256 .f32) (v565 : FVec F S512x256 .bf16), Vec F S1x1x1x256x256 .bf16) → sProp 𝕄) :
    St m K c 18 16 ⊢ iprop((St m K c 18 16 -∗ Q ⟨k0_pay30 v538, k0_pay31 v538 (winC m c 2) (woutC m c 2),
        k0_pay32 v538 (row (landV m c (true, 2, 0)) 0) (row (landV m c (true, 2, 0)) 1), k0_pay33 v538 (row (landV m c (false, 2, 0)) 0), (row (landV m c (false, 2, 0)) 1)⟩) -∗ Wp c (appl k0_part24 v538) Q) := by
  unfold appl
  rw [k0_part24_eq_skeleton]; unfold k0_part24_skel
  simp only [Prog.lift, Prog.bind_op, Prog.bind_ret, Prog.pure_eq_ret]
  iintro HS Hk
  iapply (step_whole m K c 18 16 (Memref.whole cc0_stg5_0) (in_win2 m c) (read_win2 _)) $$ HS; iintro HS
  iapply (step_whole m K c 18 16 (Memref.whole cc0_stg6_0) (in_wout2 m c) (read_wout2 _)) $$ HS; iintro HS
  iapply (step_row m K c true 2 0 0 18 16 (by decide)) $$ HS; iintro HS
  iapply (step_row m K c true 2 0 1 18 16 (by decide)) $$ HS; iintro HS
  iapply (step_row m K c false 2 0 0 18 16 (by decide)) $$ HS; iintro HS
  iapply (step_row m K c false 2 0 1 18 16 (by decide)) $$ HS; iintro HS
  iapply (step_ret c)
  iapply Hk
  iexact HS

/-- The twenty-fifth: the third layer's products of the second hop. -/
theorem part25 (K : Dev nD × CIx → ℕ) (c : Dev nD) (v539 : FVec F S512x256 .bf16) (v550 v559 : FVec F S512x256 .f32) (v565 : FVec F S512x256 .bf16) (v566 : Vec F S1x1x1x256x256 .bf16)
    (Q : (Σ' (v590 : FVec F S512x256 .f32), BitVec 32) → sProp 𝕄) :
    St m K c 18 16 ⊢ iprop((∀ w, St m K c 18 16 -∗ Q ⟨k0_pay34 v539 v550 v559 v565 v566 (row (landV m c (true, 2, 1)) 0) (row (landV m c (true, 2, 1)) 1) (row (landV m c (false, 2, 1)) 0) (row (landV m c (false, 2, 1)) 1), w⟩)
      -∗ Wp c (appl k0_part25 v539 v550 v559 v565 v566) Q) := by
  unfold appl
  rw [k0_part25_eq_skeleton]; unfold k0_part25_skel
  simp only [Prog.lift, Prog.bind_op, Prog.bind_ret, Prog.pure_eq_ret]
  iintro HS Hk
  iapply (step_row m K c true 2 1 0 18 16 (by decide)) $$ HS; iintro HS
  iapply (step_row m K c true 2 1 1 18 16 (by decide)) $$ HS; iintro HS
  iapply (step_row m K c false 2 1 0 18 16 (by decide)) $$ HS; iintro HS
  iapply (step_row m K c false 2 1 1 18 16 (by decide)) $$ HS; iintro HS
  iapply (step_ret c)
  iapply Hk
  iexact HS

/-- The twenty-sixth: the last slots received. -/
theorem part26 (K : Dev nD × CIx → ℕ) (c : Dev nD) (v5 v7 : BitVec 32) (v539 : FVec F S512x256 .bf16) (w : BitVec 32)
    (Q : (Σ' (v612 : FVec F S512x256 .bf16), Vec F S1x1x1x256x256 .bf16) → sProp 𝕄) :
    St m K c 18 16 ⊢ iprop((St m K c 18 18 -∗ Q ⟨k0_pay35 v539 (row (landV m c (true, 2, 2)) 0), (row (landV m c (true, 2, 2)) 1)⟩) -∗ Wp c (appl k0_part26 v5 v7 v539 w) Q) := by
  unfold appl
  rw [k0_part26_eq_skeleton]; unfold k0_part26_skel
  simp only [Prog.lift, Prog.bind_op, Prog.bind_ret, Prog.pure_eq_ret]
  iintro HS Hk
  iapply (step_recv m K c (true, 2, 2) 18 16 rfl (by decide) (slot_credit (true, 2, 2)) _ (keep_last m c true 2)) $$ HS; iintro ⟨HS, -⟩
  iapply (step_recv m K c (false, 2, 2) 18 17 rfl (by decide) (slot_credit (false, 2, 2)) _ (keep_last m c false 2)) $$ HS; iintro ⟨HS, -⟩
  iapply (step_row m K c true 2 2 0 18 18 (by decide)) $$ HS; iintro HS
  iapply (step_row m K c true 2 2 1 18 18 (by decide)) $$ HS; iintro HS
  iapply (step_ret c)
  iapply Hk
  iexact HS

end Cert.Rings

end
-- ==== Proof.Parts5.lean ====
/-
# The end of the body

The kernel's body is a chain of parts. Each theorem here runs one part, from what it needs to what it leaves.
-/
module

public import proofs.«01_k».proof.Proof.Kit

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What is left of the state when only the sends are to be waited for. -/
def Rest (c : Dev nD) : sProp 𝕄 := iprop(Ins m c ∗ sepL (doneTok m c) order.reverse)

/-- Every hop sent and received. -/
theorem st_drain (K : Dev nD × CIx → ℕ) (c : Dev nD) : St m K c 18 18 ⊢ iprop(Dr m K c 0 ∗ Rest m c) := by
  have h : (sepL (sentTok c) (order.take 18).reverse : sProp 𝕄) ⊢ sepL (sentTok c) (drain.drop 0) :=
    Entails.of_eq ((sepL_eq _ _ (by decide)).trans (Eq.trans (by congr 1; decide) (sepL_eq _ _ (by decide)).symm))
  unfold St Dr Rest
  iintro ⟨Hctx, HI, HO, -, Hs, -, Hd⟩
  isplitl [Hctx HO Hs]
  · isplitl [Hctx]; · iexact Hctx
    isplitl [HO]; · iexact HO
    isplitl [Hs]; · iapply h; iexact Hs
    iempintro
  · isplitl [HI]; · iexact HI
    iexact Hd

omit [FloatOps F] in
/-- A store to all of the output leaves what was stored. -/
theorem write_out (f w : S512x256.Idx → Elt F .f32) :
    ((Memref.whole cc0_stg7_0 : Memref sig .tc .vmem S512x256 .f32).access (Rect.unit (s := S512x256) ![0, 0] S512x256.size inb_S512x256_S512x256_0_0)).write (Elt F) f w Finset.univ = w :=
  Memref.write_access_unit_zero_univ (Elt F) cc0_stg7_0 hz2 _ f w

/-- The twenty-seventh part: the output stored, the first send waited for. -/
theorem part27 (K : Dev nD × CIx → ℕ) (c : Dev nD) (v539 : FVec F S512x256 .bf16) (v590 : FVec F S512x256 .f32) (v612 : FVec F S512x256 .bf16) (v613 : Vec F S1x1x1x256x256 .bf16)
    (f : S512x256.Idx → Elt F .f32) (Q : PUnit → sProp 𝕄) :
    iprop(St m K c 18 18 ∗ outPts c f)
      ⊢ iprop((iprop(Dr m K c 1 ∗ Rest m c ∗ outPts c (k0_pay36 v539 v590 v612 v613 (row (landV m c (false, 2, 2)) 0) (row (landV m c (false, 2, 2)) 1))) -∗ Q ⟨⟩)
        -∗ Wp c (appl k0_part27 v539 v590 v612 v613) Q) := by
  unfold appl
  rw [k0_part27_eq_skeleton]; unfold k0_part27_skel
  simp only [Prog.lift, Prog.bind_op, Prog.bind_ret, Prog.pure_eq_ret]
  iintro ⟨HS, Hout⟩ Hk
  iapply (step_row m K c false 2 2 0 18 18 (by decide)) $$ HS; iintro HS
  iapply (step_row m K c false 2 2 1 18 18 (by decide)) $$ HS; iintro HS
  iapply (wp_load 𝒱₀ (c : Thread nD τ) none Set.univ (m := (Memref.whole cc0_stg7_0 : Memref sig .tc .vmem S512x256 .f32)) (Finset.subset_univ _)) $$ Hout; iintro Hout
  iapply (wp_store 𝒱₀ (c : Thread nD τ) none Set.univ (m := (Memref.whole cc0_stg7_0 : Memref sig .tc .vmem S512x256 .f32))
    (r := Rect.unit (s := S512x256) ![0, 0] S512x256.size inb_S512x256_S512x256_0_0) (Mk := Finset.univ) (Finset.subset_univ _)) $$ Hout; iintro Hout
  rw [write_out]
  ihave HS' := (st_drain m K c) $$ HS
  icases HS' with ⟨HD, HRest⟩
  iapply (step_drain m K c (true, 0, 0) 0 rfl (src_credit (true, 0, 0))) $$ HD; iintro HD
  iapply (step_ret c)
  iapply Hk
  isplitl [HD]; · iexact HD
  isplitl [HRest] <;> iassumption

/-- The twenty-eighth: sends waited for. -/
theorem part28 (K : Dev nD × CIx → ℕ) (c : Dev nD) (Q : PUnit → sProp 𝕄) : Dr m K c 1 ⊢ iprop((Dr m K c 4 -∗ Q ⟨⟩) -∗ Wp c (appl k0_part28) Q) := by
  unfold appl
  rw [k0_part28_eq_skeleton]; unfold k0_part28_skel
  simp only [Prog.lift, Prog.bind_op, Prog.bind_ret, Prog.pure_eq_ret]
  iintro HD Hk
  iapply (step_drain m K c (false, 0, 0) 1 rfl (src_credit (false, 0, 0))) $$ HD; iintro HD
  iapply (step_drain m K c (true, 0, 1) 2 rfl (src_credit (true, 0, 1))) $$ HD; iintro HD
  iapply (step_drain m K c (false, 0, 1) 3 rfl (src_credit (false, 0, 1))) $$ HD; iintro HD
  iapply (step_ret c)
  iapply Hk
  iexact HD

/-- The twenty-ninth: sends waited for. -/
theorem part29 (K : Dev nD × CIx → ℕ) (c : Dev nD) (Q : PUnit → sProp 𝕄) : Dr m K c 4 ⊢ iprop((Dr m K c 6 -∗ Q ⟨⟩) -∗ Wp c (appl k0_part29) Q) := by
  unfold appl
  rw [k0_part29_eq_skeleton]; unfold k0_part29_skel
  simp only [Prog.lift, Prog.bind_op, Prog.bind_ret, Prog.pure_eq_ret]
  iintro HD Hk
  iapply (step_drain m K c (true, 0, 2) 4 rfl (src_credit (true, 0, 2))) $$ HD; iintro HD
  iapply (step_drain m K c (false, 0, 2) 5 rfl (src_credit (false, 0, 2))) $$ HD; iintro HD
  iapply (step_ret c)
  iapply Hk
  iexact HD

/-- The thirtieth: sends waited for. -/
theorem part30 (K : Dev nD × CIx → ℕ) (c : Dev nD) (Q : PUnit → sProp 𝕄) : Dr m K c 6 ⊢ iprop((Dr m K c 9 -∗ Q ⟨⟩) -∗ Wp c (appl k0_part30) Q) := by
  unfold appl
  rw [k0_part30_eq_skeleton]; unfold k0_part30_skel
  simp only [Prog.lift, Prog.bind_op, Prog.bind_ret, Prog.pure_eq_ret]
  iintro HD Hk
  iapply (step_drain m K c (true, 1, 0) 6 rfl (src_credit (true, 1, 0))) $$ HD; iintro HD
  iapply (step_drain m K c (false, 1, 0) 7 rfl (src_credit (false, 1, 0))) $$ HD; iintro HD
  iapply (step_drain m K c (true, 1, 1) 8 rfl (src_credit (true, 1, 1))) $$ HD; iintro HD
  iapply (step_ret c)
  iapply Hk
  iexact HD

/-- The thirty-first: sends waited for. -/
theorem part31 (K : Dev nD × CIx → ℕ) (c : Dev nD) (Q : PUnit → sProp 𝕄) : Dr m K c 9 ⊢ iprop((Dr m K c 12 -∗ Q ⟨⟩) -∗ Wp c (appl k0_part31) Q) := by
  unfold appl
  rw [k0_part31_eq_skeleton]; unfold k0_part31_skel
  simp only [Prog.lift, Prog.bind_op, Prog.bind_ret, Prog.pure_eq_ret]
  iintro HD Hk
  iapply (step_drain m K c (false, 1, 1) 9 rfl (src_credit (false, 1, 1))) $$ HD; iintro HD
  iapply (step_drain m K c (true, 1, 2) 10 rfl (src_credit (true, 1, 2))) $$ HD; iintro HD
  iapply (step_drain m K c (false, 1, 2) 11 rfl (src_credit (false, 1, 2))) $$ HD; iintro HD
  iapply (step_ret c)
  iapply Hk
  iexact HD

/-- The thirty-second: sends waited for. -/
theorem part32 (K : Dev nD × CIx → ℕ) (c : Dev nD) (Q : PUnit → sProp 𝕄) : Dr m K c 12 ⊢ iprop((Dr m K c 15 -∗ Q ⟨⟩) -∗ Wp c (appl k0_part32) Q) := by
  unfold appl
  rw [k0_part32_eq_skeleton]; unfold k0_part32_skel
  simp only [Prog.lift, Prog.bind_op, Prog.bind_ret, Prog.pure_eq_ret]
  iintro HD Hk
  iapply (step_drain m K c (true, 2, 0) 12 rfl (src_credit (true, 2, 0))) $$ HD; iintro HD
  iapply (step_drain m K c (false, 2, 0) 13 rfl (src_credit (false, 2, 0))) $$ HD; iintro HD
  iapply (step_drain m K c (true, 2, 1) 14 rfl (src_credit (true, 2, 1))) $$ HD; iintro HD
  iapply (step_ret c)
  iapply Hk
  iexact HD

/-- The thirty-third: sends waited for. -/
theorem part33 (K : Dev nD × CIx → ℕ) (c : Dev nD) (Q : PUnit → sProp 𝕄) : Dr m K c 15 ⊢ iprop((Dr m K c 17 -∗ Q ⟨⟩) -∗ Wp c (appl k0_part33) Q) := by
  unfold appl
  rw [k0_part33_eq_skeleton]; unfold k0_part33_skel
  simp only [Prog.lift, Prog.bind_op, Prog.bind_ret, Prog.pure_eq_ret]
  iintro HD Hk
  iapply (step_drain m K c (false, 2, 1) 15 rfl (src_credit (false, 2, 1))) $$ HD; iintro HD
  iapply (step_drain m K c (true, 2, 2) 16 rfl (src_credit (true, 2, 2))) $$ HD; iintro HD
  iapply (step_ret c)
  iapply Hk
  iexact HD

end Cert.Rings

end
-- ==== Proof.Body.lean ====
/-
# The whole body

The value the body stores, and the parts run one after the other.
-/
module

public import proofs.«01_k».proof.Proof.Parts1
public import proofs.«01_k».proof.Proof.Parts2
public import proofs.«01_k».proof.Proof.Parts3
public import proofs.«01_k».proof.Proof.Parts4
public import proofs.«01_k».proof.Proof.Parts5

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The value stored -/

/-- The activations as the first layer's products take them. -/
def x1 (c : Dev nD) : FVec F S512x256 .bf16 := k0_pay14 (xC m c)
/-- The first layer's sum after its own weights' products and the first hop's, -/
def acc1 (c : Dev nD) : FVec F S512x256 .f32 :=
  k0_pay19 (x1 m c) (k0_pay16 (k0_pay15 (xC m c) (winC m c 0)) (woutC m c 0)) (k0_pay17 (x1 m c) (row (landV m c (true, 0, 0)) 0)) k0_pay18 (row (landV m c (true, 0, 0)) 1) (row (landV m c (false, 0, 0)) 0) (row (landV m c (false, 0, 0)) 1)
/-- and the second hop's. -/
def acc1' (c : Dev nD) : FVec F S512x256 .f32 :=
  k0_pay21 (x1 m c) (acc1 m c) (k0_pay20 (x1 m c) (row (landV m c (true, 0, 1)) 0)) (row (landV m c (true, 0, 1)) 1) (row (landV m c (false, 0, 1)) 0) (row (landV m c (false, 0, 1)) 1)
/-- The activations the second layer takes; -/
def x2 (c : Dev nD) : FVec F S512x256 .bf16 :=
  k0_pay23 (x1 m c) (acc1' m c) (k0_pay22 (x1 m c) (row (landV m c (true, 0, 2)) 0)) (row (landV m c (true, 0, 2)) 1) (row (landV m c (false, 0, 2)) 0) (row (landV m c (false, 0, 2)) 1)
/-- its own weights' products, -/
def own2 (c : Dev nD) : FVec F S512x256 .f32 :=
  k0_pay24 (x1 m c) (acc1' m c) (k0_pay22 (x1 m c) (row (landV m c (true, 0, 2)) 0)) (row (landV m c (true, 0, 2)) 1) (row (landV m c (false, 0, 2)) 0) (row (landV m c (false, 0, 2)) 1) (winC m c 1) (woutC m c 1)
/-- its sum after the first hop's, -/
def acc2 (c : Dev nD) : FVec F S512x256 .f32 :=
  k0_pay26 (x2 m c) (own2 m c) (k0_pay25 (row (landV m c (true, 1, 0)) 0)) (constant S512x256 .f32 0x00000000#32) (row (landV m c (true, 1, 0)) 1) (row (landV m c (false, 1, 0)) 0) (row (landV m c (false, 1, 0)) 1)
/-- after the second's, -/
def acc2' (c : Dev nD) : FVec F S512x256 .f32 :=
  k0_pay28 (x2 m c) (acc2 m c) (k0_pay27 (x2 m c) (row (landV m c (true, 1, 1)) 0) (row (landV m c (true, 1, 1)) 1)) (row (landV m c (false, 1, 1)) 0) (row (landV m c (false, 1, 1)) 1)
/-- and after the third's. -/
def acc2'' (c : Dev nD) : FVec F S512x256 .f32 := k0_pay29 (x2 m c) (acc2' m c) (row (landV m c (true, 1, 2)) 0) (row (landV m c (true, 1, 2)) 1) (row (landV m c (false, 1, 2)) 0) (row (landV m c (false, 1, 2)) 1)
/-- The activations the third layer takes; -/
def x3 (c : Dev nD) : FVec F S512x256 .bf16 := k0_pay30 (acc2'' m c)
/-- its sum after its own weights' products and two hops', -/
def acc3 (c : Dev nD) : FVec F S512x256 .f32 :=
  k0_pay34 (x3 m c) (k0_pay31 (acc2'' m c) (winC m c 2) (woutC m c 2)) (k0_pay32 (acc2'' m c) (row (landV m c (true, 2, 0)) 0) (row (landV m c (true, 2, 0)) 1))
    (k0_pay33 (acc2'' m c) (row (landV m c (false, 2, 0)) 0)) (row (landV m c (false, 2, 0)) 1) (row (landV m c (true, 2, 1)) 0) (row (landV m c (true, 2, 1)) 1) (row (landV m c (false, 2, 1)) 0) (row (landV m c (false, 2, 1)) 1)
/-- and the result. -/
def outAt (c : Dev nD) : S512x256.Idx → Elt F .f32 :=
  k0_pay36 (x3 m c) (acc3 m c) (k0_pay35 (x3 m c) (row (landV m c (true, 2, 2)) 0)) (row (landV m c (true, 2, 2)) 1) (row (landV m c (false, 2, 2)) 0) (row (landV m c (false, 2, 2)) 1)

/-! ## The run -/

/-- Two programs run one after the other. -/
theorem step_bind {α β : Type} (c : Dev nD) (p : Prog (TpuEff nD τ sig (Elt F) Λ₀ .tc) β) (k : β → Prog (TpuEff nD τ sig (Elt F) Λ₀ .tc) α) (Q : α → sProp 𝕄) :
    Wp c (p >>= k) Q = Wp c p (fun a => Wp c (k a) Q) :=
  wp_bind _ _ _ p k Q

set_option maxHeartbeats 4000000 in
set_option maxRecDepth 4000 in
/-- The body from its start to its last wait: the copies all sent, received and drained, the output stored. -/
theorem sound_body (K : Dev nD × CIx → ℕ) (c : Dev nD) (f : S512x256.Idx → Elt F .f32) (Q : PUnit → sProp 𝕄) :
    iprop(Bg m K c ∗ ((slabAny c true 0 ∗ slabAny c true 1 ∗ slabAny c true 2) ∗ (slabAny c false 0 ∗ slabAny c false 1 ∗ slabAny c false 2)) ∗ outPts c f)
      ⊢ iprop((iprop(Dr m K c 18 ∗ Rest m c ∗ outPts c (outAt m c) ∗ semVal (barCell c) 0) -∗ Q ⟨⟩) -∗ Wp c (appl cc0_body) Q) := by
  rw [cc0_body_eq_skeleton]; unfold appl cc0_body_skel
  iintro ⟨HB, ⟨⟨HT0, HT1, HT2⟩, HF0, HF1, HF2⟩, Hout⟩ Hk
  rw [step_bind]
  iapply (part1 m K c _) $$ [HB HT0]
  · isplitl [HB] <;> iassumption
  iintro %v5 %v7 ⟨HS, Hz, H1⟩
  try dsimp only
  rw [step_bind]
  iapply (part2 m K c v5 v7 _) $$ [HS H1 HF0]
  · isplitl [HS]; · iexact HS
    isplitl [H1] <;> iassumption
  iintro %w ⟨HS, H1⟩
  obtain ⟨w, w'⟩ := w
  try dsimp only
  rw [step_bind]
  iapply (part3 m K c w w' _) $$ [HS H1 HT1 HF1]
  · isplitl [HS]; · iexact HS
    isplitl [H1]; · iexact H1
    isplitl [HT1] <;> iassumption
  iintro %X ⟨HS, H1, H2⟩
  try dsimp only
  rw [step_bind]
  iapply (part4 m K c v5 v7 X _) $$ [HS H1 H2]
  · isplitl [HS]; · iexact HS
    isplitl [H1] <;> iassumption
  iintro HS
  try dsimp only
  rw [step_bind]
  iapply (part5 m K c _) $$ [HS HT2 HF2]
  · isplitl [HS]; · iexact HS
    isplitl [HT2] <;> iassumption
  iintro %w5 ⟨HS, H1, H2⟩
  try dsimp only
  rw [step_bind]
  iapply (part6 m K c v5 v7 w5 _) $$ [HS H1 H2]
  · isplitl [HS]; · iexact HS
    isplitl [H1] <;> iassumption
  iintro HS
  try dsimp only
  rw [step_bind]
  iapply (part7 m K c v5 v7 _ _) $$ HS
  iintro ⟨HS, H1, H2⟩
  try dsimp only
  rw [step_bind]
  iapply (part8 m K c v5 v7 _ _) $$ [HS H1 H2]
  · isplitl [HS]; · iexact HS
    isplitl [H1] <;> iassumption
  iintro HS
  try dsimp only
  rw [step_bind]
  iapply (part9 m K c v7 _ _ _ _ _) $$ HS
  iintro ⟨HS, H1⟩
  try dsimp only
  rw [step_bind]
  iapply (part10 m K c v5 v7 _) $$ [HS H1]
  · isplitl [HS] <;> iassumption
  iintro %w10 ⟨HS, H1⟩
  try dsimp only
  rw [step_bind]
  iapply (part11 m K c v5 v7 w10 _) $$ [HS H1]
  · isplitl [HS] <;> iassumption
  iintro ⟨HS, H1⟩
  try dsimp only
  rw [step_bind]
  iapply (part12 m K c v5 v7 _) $$ [HS H1]
  · isplitl [HS] <;> iassumption
  iintro HS
  try dsimp only
  rw [step_bind]
  iapply (part13 m K c v5 v7 _) $$ HS
  iintro %u ⟨HS, H1, H2⟩
  obtain ⟨u, u'⟩ := u
  try dsimp only
  rw [step_bind]
  iapply (part14 m K c v5 _ u u' _) $$ [HS H1 H2]
  · isplitl [HS]; · iexact HS
    isplitl [H1] <;> iassumption
  iintro HS
  try dsimp only
  rw [step_bind]
  iapply (part15 m K c v7 _ _ _ _) $$ HS
  iintro ⟨HS, H1⟩
  try dsimp only
  rw [step_bind]
  iapply (part16 m K c v5 v7 _) $$ [HS H1]
  · isplitl [HS] <;> iassumption
  iintro ⟨HS, H1⟩
  try dsimp only
  rw [step_bind]
  iapply (part17 m K c v5 v7 _) $$ [HS H1]
  · isplitl [HS] <;> iassumption
  iintro ⟨HS, H1⟩
  try dsimp only
  rw [step_bind]
  iapply (part18 m K c v5 v7 _) $$ [HS H1]
  · isplitl [HS] <;> iassumption
  iintro HS
  try dsimp only
  rw [step_bind]
  iapply (part19 m K c v5 v7 _ _) $$ HS
  iintro HS
  try dsimp only
  rw [step_bind]
  iapply (part20 m K c _ _ _ _) $$ HS
  iintro HS
  try dsimp only
  rw [step_bind]
  iapply (part21 m K c _ _ _ _ _) $$ HS
  iintro HS
  try dsimp only
  rw [step_bind]
  iapply (part22 m K c v5 v7 _ _ _ _) $$ HS
  iintro %s %s' HS
  try dsimp only
  rw [step_bind]
  iapply (part23 m K c _ _ s s' _) $$ HS
  iintro HS
  try dsimp only
  rw [step_bind]
  iapply (part24 m K c _ _) $$ HS
  iintro HS
  try dsimp only
  rw [step_bind]
  iapply (part25 m K c _ _ _ _ _ _) $$ HS
  iintro %t HS
  try dsimp only
  rw [step_bind]
  iapply (part26 m K c v5 v7 _ t _) $$ HS
  iintro HS
  try dsimp only
  rw [step_bind]
  iapply (part27 m K c _ _ _ _ f _) $$ [HS Hout]
  · isplitl [HS] <;> iassumption
  iintro ⟨HD, HRest, Hout⟩
  try dsimp only
  rw [step_bind]
  iapply (part28 m K c _) $$ HD
  iintro HD
  try dsimp only
  rw [step_bind]
  iapply (part29 m K c _) $$ HD
  iintro HD
  try dsimp only
  rw [step_bind]
  iapply (part30 m K c _) $$ HD
  iintro HD
  try dsimp only
  rw [step_bind]
  iapply (part31 m K c _) $$ HD
  iintro HD
  try dsimp only
  rw [step_bind]
  iapply (part32 m K c _) $$ HD
  iintro HD
  try dsimp only
  rw [step_bind]
  iapply (part33 m K c _) $$ HD
  iintro HD
  try dsimp only
  simp only [Prog.lift, Prog.bind_op, Prog.bind_ret, Prog.pure_eq_ret]
  iapply (step_drain m K c (false, 2, 2) 17 rfl (src_credit (false, 2, 2))) $$ HD; iintro HD
  iapply (step_ret c)
  iapply Hk
  isplitl [HD]; · iexact HD
  isplitl [HRest]; · iexact HRest
  isplitl [Hout]; · iexact Hout
  iexact Hz

end Cert.Rings

end
-- ==== Proof.Scratch.lean ====
/-
# The scratch buffers, piece by piece

A buffer of packs is its three packs, a buffer of landing slots its nine slots; and what the body leaves of them, the
halves of the slots that were forwarded included, is the buffers whole again.
-/
module

public import proofs.«01_k».proof.Proof.Body
public import Idealize.ShloMosaic.Lib.Ring
public import Idealize.ShloMosaic.Lib.MemrefSat

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Pieces
variable (c : Dev nD) (pm : Memref sig .tc .vmem S3x2x256x256 .bf16) (rm : Memref sig .tc .vmem S3x3x2x256x256 .bf16)

omit [FloatOps F] in
/-- A memref's elements at contents read as something. -/
theorem owns_some {s : Shape} {e : EltTy} (a : Memref sig .tc .vmem s e) (q : PosShare TreeShare) (f : Buf (Elt F) (a.view.loc (c : Thread nD τ))) :
    (a.view.loc (c : Thread nD τ) ↦[a.view.set]{q} f : sProp 𝕄) ⊢ iprop(∃ X, owns (c : Thread nD τ) a q X) := by
  iintro H
  iexists (a.view.read (Elt F) f)
  unfold owns
  iexists f
  isplitr; · ipureintro; rfl
  iexact H
omit [FloatOps F] in
/-- And back: what is held at contents read as something is held at some contents. -/
theorem some_owns {s : Shape} {e : EltTy} (a : Memref sig .tc .vmem s e) (q : PosShare TreeShare) :
    (iprop(∃ X, owns (c : Thread nD τ) a q X) : sProp 𝕄) ⊢ iprop(∃ f, a.view.loc (c : Thread nD τ) ↦[a.view.set]{q} f) := by
  unfold owns
  iintro ⟨%X, %f, -, H⟩
  iexists f; iexact H

/-- Where a pack's element is, seen through the buffer; -/
theorem slab_view_emb (l : Fin 3) (i : S2x256x256.Idx) : (slabOf pm l).view.emb i = pm.view.emb (packIdx l i) := by
  rw [← slab_emb l i]; rfl
/-- where a slot's is. -/
theorem slot_view_emb (l h : Fin 3) (i : S2x256x256.Idx) : (slotOf rm l h).view.emb i = rm.view.emb (ringIdx l h i) := by
  rw [← slot_emb l h i]; rfl

/-- The elements of a buffer of packs that make up one pack, -/
def slabSet (l : Fin 3) : Finset (Idx (pm.view.loc (c : Thread nD τ))) := (slabOf pm l).view.set
/-- of a buffer of slots one slot. -/
def slotSet (p : Fin 3 × Fin 3) : Finset (Idx (rm.view.loc (c : Thread nD τ))) := (slotOf rm p.1 p.2).view.set

/-- Different packs have no element in common; -/
theorem slab_disj (l l' : Fin 3) (h : l ≠ l') : Disjoint (slabSet c pm l) (slabSet c pm l') := by
  refine Finset.disjoint_left.mpr fun x hx hx' => ?_
  obtain ⟨i, -, rfl⟩ := Finset.mem_map.mp hx
  obtain ⟨j, -, e⟩ := Finset.mem_map.mp hx'
  rw [slab_view_emb, slab_view_emb] at e
  exact h (congrFun (pm.view.emb.injective e) (0 : Fin 4)).symm
/-- nor have different slots. -/
theorem slot_disj (p p' : Fin 3 × Fin 3) (h : p ≠ p') : Disjoint (slotSet c rm p) (slotSet c rm p') := by
  refine Finset.disjoint_left.mpr fun x hx hx' => ?_
  obtain ⟨i, -, rfl⟩ := Finset.mem_map.mp hx
  obtain ⟨j, -, e⟩ := Finset.mem_map.mp hx'
  rw [slot_view_emb, slot_view_emb] at e
  have e' := rm.view.emb.injective e
  exact h (Prod.ext (congrFun e' (0 : Fin 5)).symm (congrFun e' (1 : Fin 5)).symm)

/-- The packs are all of their buffer; -/
theorem slab_cover (hw : pm.view.set = Finset.univ) : (Finset.univ : Finset (Fin 3)).biUnion (slabSet c pm) = Finset.univ := by
  refine Finset.eq_univ_of_forall fun x => ?_
  obtain ⟨j, -, rfl⟩ := Finset.mem_map.mp (hw ▸ Finset.mem_univ x : x ∈ pm.view.set)
  refine Finset.mem_biUnion.mpr ⟨(j (0 : Fin 4) : Fin 3), Finset.mem_univ _, Finset.mem_map.mpr ⟨fun | 0 => j (1 : Fin 4) | 1 => j (2 : Fin 4) | 2 => j (3 : Fin 4), Finset.mem_univ _, ?_⟩⟩
  refine (slab_view_emb pm _ _).trans ?_
  refine congrArg _ (funext fun a => ?_)
  fin_cases a <;> rfl
/-- the slots all of theirs. -/
theorem slot_cover (hw : rm.view.set = Finset.univ) :
    (Finset.univ : Finset (Fin 3 × Fin 3)).biUnion (slotSet c rm) = Finset.univ := by
  refine Finset.eq_univ_of_forall fun x => ?_
  obtain ⟨j, -, rfl⟩ := Finset.mem_map.mp (hw ▸ Finset.mem_univ x : x ∈ rm.view.set)
  refine Finset.mem_biUnion.mpr ⟨((j (0 : Fin 5) : Fin 3), (j (1 : Fin 5) : Fin 3)), Finset.mem_univ _,
    Finset.mem_map.mpr ⟨fun | 0 => j (2 : Fin 5) | 1 => j (3 : Fin 5) | 2 => j (4 : Fin 5), Finset.mem_univ _, ?_⟩⟩
  refine (slot_view_emb rm _ _ _).trans ?_
  refine congrArg _ (funext fun a => ?_)
  fin_cases a <;> rfl

omit [FloatOps F] in
/-- A buffer of packs is its packs, -/
theorem slabs_split (hw : pm.view.set = Finset.univ) :
    (iprop(∃ f, pm.view.loc (c : Thread nD τ) ↦{fullShare} f) : sProp 𝕄)
      ⊢ bigSep Finset.univ fun l : Fin 3 => iprop(∃ X, owns (c : Thread nD τ) (slabOf pm l) fullShare X) := by
  iintro ⟨%f, H⟩
  rw [Ring.pointsTo_blocks (ℓ := pm.view.loc (c : Thread nD τ)) (slabSet c pm) (slab_disj c pm) (slab_cover c pm hw) f]
  have h : (bigSep Finset.univ fun l : Fin 3 => pm.view.loc (c : Thread nD τ) ↦[slabSet c pm l]{fullShare} f : sProp 𝕄)
      ⊢ bigSep Finset.univ fun l : Fin 3 => iprop(∃ X, owns (c : Thread nD τ) (slabOf pm l) fullShare X) :=
    bigSep_mono fun (l : Fin 3) _ => owns_some (F := F) c (slabOf pm l) fullShare f
  exact h
omit [FloatOps F] in
/-- and back; -/
theorem slabs_join (hw : pm.view.set = Finset.univ) (f₀ : Buf (Elt F) (pm.view.loc (c : Thread nD τ))) :
    (bigSep Finset.univ fun l : Fin 3 => iprop(∃ X, owns (c : Thread nD τ) (slabOf pm l) fullShare X) : sProp 𝕄)
      ⊢ iprop(∃ f, pm.view.loc (c : Thread nD τ) ↦{fullShare} f) :=
  (bigSep_mono fun (l : Fin 3) _ => some_owns (F := F) c (slabOf pm l) fullShare).trans
    (Ring.pointsTo_blocks_join_exists (ℓ := pm.view.loc (c : Thread nD τ)) (slabSet c pm) (slab_disj c pm) (slab_cover c pm hw) f₀)
omit [FloatOps F] in
/-- a buffer of slots its slots, -/
theorem slots_split (hw : rm.view.set = Finset.univ) :
    (iprop(∃ f, rm.view.loc (c : Thread nD τ) ↦{fullShare} f) : sProp 𝕄)
      ⊢ bigSep Finset.univ fun p : Fin 3 × Fin 3 => iprop(∃ X, owns (c : Thread nD τ) (slotOf rm p.1 p.2) fullShare X) := by
  iintro ⟨%f, H⟩
  rw [Ring.pointsTo_blocks (ℓ := rm.view.loc (c : Thread nD τ)) (slotSet c rm) (slot_disj c rm) (slot_cover c rm hw) f]
  have h : (bigSep Finset.univ fun p : Fin 3 × Fin 3 => rm.view.loc (c : Thread nD τ) ↦[slotSet c rm p]{fullShare} f : sProp 𝕄)
      ⊢ bigSep Finset.univ fun p : Fin 3 × Fin 3 => iprop(∃ X, owns (c : Thread nD τ) (slotOf rm p.1 p.2) fullShare X) :=
    bigSep_mono fun (p : Fin 3 × Fin 3) _ => owns_some (F := F) c (slotOf rm p.1 p.2) fullShare f
  exact h
omit [FloatOps F] in
/-- and back. -/
theorem slots_join (hw : rm.view.set = Finset.univ) (f₀ : Buf (Elt F) (rm.view.loc (c : Thread nD τ))) :
    (bigSep Finset.univ fun p : Fin 3 × Fin 3 => iprop(∃ X, owns (c : Thread nD τ) (slotOf rm p.1 p.2) fullShare X) : sProp 𝕄)
      ⊢ iprop(∃ f, rm.view.loc (c : Thread nD τ) ↦{fullShare} f) :=
  (bigSep_mono fun (p : Fin 3 × Fin 3) _ => some_owns (F := F) c (slotOf rm p.1 p.2) fullShare).trans
    (Ring.pointsTo_blocks_join_exists (ℓ := rm.view.loc (c : Thread nD τ)) (slotSet c rm) (slot_disj c rm) (slot_cover c rm hw) f₀)

end Pieces

/-! ## The kernel's four buffers -/

/-- The packs' memref is its whole buffer; -/
theorem pack_whole (d : Bool) : (packM d).view.set = Finset.univ := by cases d <;> exact View.set_whole _
/-- the slots' likewise. -/
theorem ring_whole (d : Bool) : (ringM d).view.set = Finset.univ := by cases d <;> exact View.set_whole _

/-- The buffer of ring `d`'s packs at any contents, -/
def packAny (c : Dev nD) (d : Bool) : sProp 𝕄 := iprop(∃ f, (packM d).view.loc (c : Thread nD τ) ↦{fullShare} f)
/-- of its slots. -/
def ringAny (c : Dev nD) (d : Bool) : sProp 𝕄 := iprop(∃ f, (ringM d).view.loc (c : Thread nD τ) ↦{fullShare} f)

omit [FloatOps F] in
/-- A conjunction over three, written out; -/
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
/-- over the two rings, written out. -/
theorem bigSep_bool (Φ : Bool → sProp 𝕄) : bigSep Finset.univ Φ = iprop(Φ true ∗ Φ false) := bigSep_univ_eq_bigSepL [true, false] (by decide) (by decide) Φ

omit [FloatOps F] in
/-- A ring's buffer of packs is three packs; -/
theorem pack_split (c : Dev nD) (d : Bool) : packAny c d ⊢ (iprop(slabAny c d 0 ∗ slabAny c d 1 ∗ slabAny c d 2) : sProp 𝕄) :=
  (slabs_split (F := F) c (packM d) (pack_whole d)).trans (Entails.of_eq (bigSep_fin3 (fun l => slabAny (F := F) c d l)))
omit [FloatOps F] in
/-- its buffer of slots is its slots. -/
theorem ring_split (c : Dev nD) (d : Bool) : ringAny c d ⊢ (slotsAny c d : sProp 𝕄) :=
  slots_split (F := F) c (ringM d) (ring_whole d)

/-- What is left of one layer of one ring: each slot's part kept, each send's source back. -/
theorem layer_back (c : Dev nD) (d : Bool) (l : Fin 3) :
    iprop((bigSep Finset.univ fun h : Fin 3 => owns (c : Thread nD τ) (slotM (d, l, h)) (keepShare (d, l, h)) (landV m c (d, l, h)))
        ∗ bigSep Finset.univ fun h : Fin 3 => sendPay m c (d, l, h))
      ⊢ (iprop(slabAny c d l ∗ bigSep Finset.univ fun h : Fin 3 => iprop(∃ X, owns (c : Thread nD τ) (slotM (d, l, h)) fullShare X)) : sProp 𝕄) := by
  rw [bigSep_fin3, bigSep_fin3, bigSep_fin3]
  iintro ⟨⟨H0, H1, H2⟩, S0, S1, S2⟩
  isplitl [S0]
  · unfold slabAny sendPay; iexists _; iexact S0
  isplitl [H0 S1]
  · iexists (landV m c (d, l, 0))
    iapply (owns_halves (c : Thread nD τ) (slotM (d, l, 0)) fullShare (landV m c (d, l, 0))).2
    isplitl [S1]
    · iapply (show sendPay m c (d, l, 1) ⊢ owns (c : Thread nD τ) (slotM (d, l, 0)) fullShare.left (landV m c (d, l, 0)) from .rfl); iexact S1
    · iexact H0
  isplitl [H1 S2]
  · iexists (landV m c (d, l, 1))
    iapply (owns_halves (c : Thread nD τ) (slotM (d, l, 1)) fullShare (landV m c (d, l, 1))).2
    isplitl [S2]
    · iapply (show sendPay m c (d, l, 2) ⊢ owns (c : Thread nD τ) (slotM (d, l, 1)) fullShare.left (landV m c (d, l, 1)) from .rfl); iexact S2
    · iexact H1
  iexists _; iexact H2

/-- What is left of one ring is its two buffers. -/
theorem ring_back (c : Dev nD) (d : Bool) :
    iprop((bigSep Finset.univ fun lh : Fin 3 × Fin 3 => owns (c : Thread nD τ) (slotM (d, lh)) (keepShare (d, lh)) (landV m c (d, lh)))
        ∗ bigSep Finset.univ fun lh : Fin 3 × Fin 3 => sendPay m c (d, lh))
      ⊢ (iprop(packAny c d ∗ ringAny c d) : sProp 𝕄) := by
  rw [bigSep_univ_prod, bigSep_univ_prod (fun lh : Fin 3 × Fin 3 => sendPay m c (d, lh)), ← bigSep_sep']
  refine (bigSep_mono fun l _ => layer_back m c d l).trans ?_
  rw [bigSep_sep', ← bigSep_univ_prod (fun lh : Fin 3 × Fin 3 => iprop(∃ X, owns (c : Thread nD τ) (slotM (d, lh)) fullShare X))]
  refine BI.sep_mono (slabs_join (F := F) c (packM d) (pack_whole d) (m _)) (slots_join (F := F) c (ringM d) (ring_whole d) (m _))

/-- When every send and receipt has been waited for, the kernel's own semaphores are at zero and its buffers whole. -/
theorem all_back (c : Dev nD) :
    iprop(sepL (doneTok m c) order.reverse ∗ sepL (backTok m c) drain.reverse)
      ⊢ (iprop((bigSep Finset.univ fun s : Slot => semVal (recvCell c s) 0) ∗ (bigSep Finset.univ fun s : Slot => semVal (sendCell c s) 0)
          ∗ (packAny c true ∗ ringAny c true) ∗ (packAny c false ∗ ringAny c false)) : sProp 𝕄) := by
  rw [sepL_eq _ _ (List.nodup_reverse.mpr order_nodup), sepL_eq _ _ (List.nodup_reverse.mpr drain_nodup),
    List.toFinset_reverse, List.toFinset_reverse, ← order_univ, ← drain_univ]
  unfold doneTok backTok
  rw [bigSep_sep', bigSep_sep',
    bigSep_univ_prod (fun s : Slot => owns (c : Thread nD τ) (slotM s) (keepShare s) (landV m c s)), bigSep_bool,
    bigSep_univ_prod (fun s : Slot => sendPay m c s), bigSep_bool]
  iintro ⟨⟨Hr, Ht, Hf⟩, Hs, St, Sf⟩
  isplitl [Hr]; · iexact Hr
  isplitl [Hs]; · iexact Hs
  isplitl [Ht St]
  · iapply (ring_back m c true)
    isplitl [Ht] <;> iassumption
  · iapply (ring_back m c false)
    isplitl [Hf] <;> iassumption

end Cert.Rings

end
-- ==== Proof.Ghost.lean ====
/-
# What the launch hands each device

The cells of the rings are minted with their duties, their invariants allocated, and the tokens dealt around: a barrier's
two to the neighbours that signal it, a receive cell's to the device that sends to it. The credit each device starts with
is what the others owe its cells.
-/
module

public import proofs.«01_k».proof.Proof.Scratch

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The kernel's own semaphores: each hop's of its send and of its receipt. -/
abbrev osem : Bool × Slot → SemLoc sig := fun k => .dma (xsem k.1 k.2)

/-- Different hops, sends and receipts have different semaphores; -/
theorem xsem_injective : Function.Injective (fun k : Bool × Slot => xsem k.1 k.2) := fun a b h => by
  have := congrArg decode h
  rw [decode_xsem, decode_xsem] at this
  exact this

/-- a device's cells have different semaphores; -/
theorem csem_injective : Function.Injective csem := by
  rintro (_ | a) (_ | b) h
  · rfl
  · exact absurd h (fun h => by cases h)
  · exact absurd h (fun h => by cases h)
  · exact congrArg some (xsem_injective (SemLoc.dma.inj h))
/-- the cells of all devices are different. -/
theorem kcell_injective : Function.Injective kcell := by
  rintro ⟨c, k⟩ ⟨c', k'⟩ h
  obtain rfl : c = c' := congrArg (fun g : GSem nD τ sig => g.1.1) h
  obtain rfl : k = k' := csem_injective (congrArg Prod.snd h)
  rfl
/-- All the cells of all devices. -/
def ringCells : Finset (GSem nD τ sig) := Finset.univ.map ⟨kcell, kcell_injective⟩

/-- A device's own duties: its barrier's two, each hop's send and receipt. -/
abbrev TIx : Type := Bool ⊕ (Bool × Slot)
/-- The cell, the round and the name of a duty. -/
abbrev tokOf (cj : Dev nD × TIx) : GSem nD τ sig × ℕ × Bool := match cj.2 with
  | .inl d => (barCell cj.1, 0, d)
  | .inr k => (xCell k.1 cj.1 k.2, 0, false)
/-- Different duties are told apart by these. -/
theorem tokOf_injective : Function.Injective tokOf := by
  rintro ⟨c, j⟩ ⟨c', j'⟩ h
  obtain rfl : c = c' := by
    have := congrArg (fun x : GSem nD τ sig × ℕ × Bool => x.1.1.1) h
    rcases j with _ | _ <;> rcases j' with _ | _ <;> exact this
  rcases j with d | k <;> rcases j' with d' | k'
  · obtain rfl : d = d' := congrArg (fun x : GSem nD τ sig × ℕ × Bool => x.2.2) h
    rfl
  · exact absurd (congrArg (fun x : GSem nD τ sig × ℕ × Bool => x.1.2) h) (fun h' => by cases h')
  · exact absurd (congrArg (fun x : GSem nD τ sig × ℕ × Bool => x.1.2) h) (fun h' => by cases h')
  · obtain rfl : k = k' := xsem_injective (SemLoc.dma.inj (congrArg (fun x : GSem nD τ sig × ℕ × Bool => x.1.2) h))
    rfl
/-- All the duties of all devices. -/
def ringToks : Finset (GSem nD τ sig × ℕ × Bool) := Finset.univ.map ⟨tokOf, tokOf_injective⟩

/-- The resource that the launch starts from: the staging's, and the rings' with every cell at its first round and every duty unpaid. -/
def u₀ : UU := (initOf (Pipeline.cells cfgs cellOf_inj) (Pipeline.launchToks cfgs cellOf_inj), initOf ringCells ringToks)

/-- The duty tokens of device `c`'s own cells; -/
def toks (c : Dev nD) : sProp 𝕄 :=
  iprop((dutyTok ER (barCell c) 0 true ∗ dutyTok ER (barCell c) 0 false)
    ∗ (bigSep Finset.univ fun s : Slot => dutyTok ER (recvCell c s) 0 false) ∗ bigSep Finset.univ fun s : Slot => dutyTok ER (sendCell c s) 0 false)
/-- the tokens of the duties it pays. -/
def payToks (c : Dev nD) : sProp 𝕄 :=
  iprop((dutyTok ER (barCell (prv c)) 0 true ∗ dutyTok ER (barCell (nxt c)) 0 false)
    ∗ (bigSep Finset.univ fun s : Slot => dutyTok ER (recvCell (tgt s.1 c) s) 0 false) ∗ bigSep Finset.univ fun s : Slot => dutyTok ER (sendCell c s) 0 false)
/-- What is device `c`'s alone: its positions and those tokens. -/
def linear (c : Dev nD) : sProp 𝕄 := iprop((bigSep Finset.univ fun k : CIx => atPos ER (kcell (c, k)) 0 ∅ 0) ∗ payToks c)

/-- What the launch element deals device `c`, -/
def G (c : Dev nD) : sProp 𝕄 :=
  iprop((bigSep Finset.univ fun k : CIx => roundState ER (ringRd m) (kcell (c, k)) 0)
    ∗ (bigSep Finset.univ fun k : CIx => iprop(atPos ER (kcell (c, k)) 0 ∅ 0 ∗ reached ER (kcell (c, k)) 0)) ∗ toks c)
/-- and what it holds once the invariants are allocated and the tokens dealt. -/
def G' (c : Dev nD) : sProp 𝕄 := iprop(∃ K, records m K ∗ linear c)

omit [FloatOps F] in
/-- A conjunction over a device's cells is the barrier's part and that over the hops' cells. -/
theorem bigSep_option (Φ : CIx → sProp 𝕄) : bigSep Finset.univ Φ = iprop(Φ none ∗ bigSep Finset.univ fun k : Bool × Slot => Φ (some k)) := by
  rw [show (Finset.univ : Finset CIx) = insert none (Finset.univ.map Function.Embedding.some) from by
      ext x; rcases x with _ | x <;> simp, bigSep_insert (by simp), bigSep_map]
  rfl

/-- The rings' part of the launch's resource is dealt to the devices. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CIx => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_sum, bigSep_bool, bigSep_univ_prod (fun k : Bool × Slot => _), bigSep_bool]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore; -/
theorem unscopedSems0_eq (c : Dev nD) : (unscopedSems0 c : sProp 𝕄) = semVal (barCell c) 0 := by
  unfold unscopedSems0; rw [bigSep_eq_bigSepL_of_eq [SemLoc.reg barS] (by decide) (by decide)]; rfl
omit [FloatOps F] in
/-- with the kernel's own ones these are the cells' semaphores. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [unscopedSems0_eq, bigSep_option]
  unfold Pipeline.ownSems0
  iintro ⟨HS, HB⟩
  isplitl [HB]; · iexact HB
  iexact HS
omit [FloatOps F] in
/-- The kernel's own semaphores, hop by hop. -/
theorem ownSems0_of (c : Dev nD) :
    iprop((bigSep Finset.univ fun s : Slot => semVal (recvCell c s) 0) ∗ bigSep Finset.univ fun s : Slot => semVal (sendCell c s) 0)
      ⊢ (Pipeline.ownSems0 (Ix := Unit) (Name := ℕ) (U := UU) (Lvl := ℕ) (Val := Elt F) (τ := τ) osem c : sProp 𝕄) := by
  unfold Pipeline.ownSems0
  rw [bigSep_univ_prod (fun k : Bool × Slot => (semVal ((c : Thread nD τ), osem k) 0 : sProp 𝕄)), bigSep_bool]

/-- On one device: its semaphores, all at zero, go into the cells' invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CIx => iprop(∃ κ : ℕ, cellInv ER (ringRd m) κ (kcell (c, k))))
          ∗ (bigSep Finset.univ fun k : CIx => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (ringRd m) (kcell (c, k)) 0)
      ⊢ (|={Set.univ}=> bigSep Finset.univ fun k : CIx => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The ring as a permutation of the devices; -/
def ring : Dev nD ≃ Dev nD where
  toFun := nxt
  invFun := prv
  left_inv := fun c => org_tgt true c
  right_inv := fun c => tgt_org true c
/-- each device and hop to the device the hop is sent to. -/
def hops : Dev nD × Slot ≃ Dev nD × Slot where
  toFun := fun cs => (tgt cs.2.1 cs.1, cs.2)
  invFun := fun cs => (org cs.2.1 cs.1, cs.2)
  left_inv := fun ⟨c, s⟩ => Prod.ext (org_tgt s.1 c) rfl
  right_inv := fun ⟨c, s⟩ => Prod.ext (tgt_org s.1 c) rfl

omit [FloatOps F] in
/-- The tokens dealt around. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv ring.symm (fun c : Dev nD => (dutyTok ER (barCell c) 0 true : sProp 𝕄)),
    bigSep_univ_equiv ring (fun c : Dev nD => (dutyTok ER (barCell c) 0 false : sProp 𝕄)),
    ← bigSep_univ_prod (fun cs : Dev nD × Slot => (dutyTok ER (recvCell cs.1 cs.2) 0 false : sProp 𝕄)),
    ← bigSep_univ_prod (fun cs : Dev nD × Slot => (dutyTok ER (recvCell (tgt cs.2.1 cs.1) cs.2) 0 false : sProp 𝕄)),
    bigSep_univ_equiv hops (fun cs : Dev nD × Slot => (dutyTok ER (recvCell cs.1 cs.2) 0 false : sProp 𝕄))]
  exact .rfl

omit [FloatOps F] in
/-- A resource that may be copied goes to each part of a conjunction. -/
theorem bigSep_share {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The records, and what is a device's alone, are what it starts from. -/
theorem g_intro (K : Dev nD × CIx → ℕ) (c : Dev nD) : iprop(records m K ∗ linear c) ⊢ G' m c := by
  unfold G'
  iintro H; iexists K; iexact H

/-- The invariants of all devices become records that each device has; the tokens go to the devices that pay. -/
theorem regroup :
    (bigSep Finset.univ fun c : Dev nD => iprop((bigSep Finset.univ fun k : CIx => iprop(∃ κ : ℕ, cellInv ER (ringRd m) κ (kcell (c, k))))
          ∗ (bigSep Finset.univ fun k : CIx => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CIx => iprop(∃ κ : ℕ, cellInv ER (ringRd m) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (ringRd m) κ (kcell ck) : sProp 𝕄))) $$ HI
  icases HK with ⟨%K, #HI⟩
  ihave Htk := (toks_around (F := F)) $$ Htok
  iapply (bigSep_share (R := records m K) fun c _ => g_intro m K c)
  isplitr
  · unfold records; isplitl; · iexact HI
    iexact HR
  · iapply ((Entails.of_eq (bigSep_sep' Finset.univ (fun c : Dev nD => bigSep Finset.univ fun k : CIx => (atPos ER (kcell (c, k)) 0 ∅ 0 : sProp 𝕄)) payToks).symm).trans
      (bigSep_mono fun c _ => show _ ⊢ linear c from .rfl))
    isplitl [Hat]; · iexact Hat
    iexact Htk

/-- The step all devices take at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- Barriers are the same only on the same device; -/
theorem bar_eq_iff {a b : Dev nD} : Iff (barCell a = barCell b) (a = b) := ⟨fun h => congrArg (fun g : GSem nD τ sig => g.1.1) h, fun h => h ▸ rfl⟩
/-- receive cells only on the same device and of the same hop. -/
theorem recv_eq_iff {a b : Dev nD} {s t : Slot} : Iff (recvCell a s = recvCell b t) (a = b ∧ s = t) := by
  constructor
  · intro h
    have h2 : (true, s) = (true, t) := xsem_injective (SemLoc.dma.inj (congrArg Prod.snd h))
    exact ⟨congrArg (fun g : GSem nD τ sig => g.1.1) h, congrArg Prod.snd h2⟩
  · rintro ⟨rfl, rfl⟩; rfl

/-- The hops owe a barrier nothing. -/
theorem owedL_bar (d c : Dev nD) (l : List Slot) : owedL d l (barCell c) () = 0 := by
  by_contra h
  obtain ⟨s, -, e⟩ := owedL_pos (Nat.pos_of_ne_zero h)
  exact dma_ne_bar _ (congrArg Prod.snd e).symm

/-- Device `d` owes a receive cell its hop's credit exactly if it is the device that sends that hop to it. -/
theorem owedL_recv (d c : Dev nD) (s : Slot) (l : List Slot) (hl : l.Nodup) :
    owedL d l (recvCell c s) () = if d = org s.1 c ∧ s ∈ l then N else 0 := by
  induction l with
  | nil => rw [if_neg (fun h => List.not_mem_nil h.2)]; rfl
  | cons a t ih =>
    obtain ⟨ha, ht⟩ := List.nodup_cons.mp hl
    rw [owedL, Pi.add_apply, Finsupp.add_apply, ih ht, tallyAt_apply]
    by_cases e : s = a
    · subst e
      rw [if_neg (fun h => ha h.2), Nat.zero_add]
      by_cases h : d = org s.1 c
      · subst h; rw [tgt_org, if_pos ⟨rfl, rfl⟩, if_pos ⟨rfl, List.mem_cons_self⟩]
      · rw [if_neg (fun h' => h (by rw [(recv_eq_iff.mp h'.1).1, org_tgt])), if_neg (fun h' => h h'.1)]
    · rw [if_neg (c := recvCell c s = _ ∧ _) (fun h' => e (recv_eq_iff.mp h'.1).2), Nat.add_zero]
      refine if_congr (and_congr_right fun _ => ?_) rfl rfl
      rw [List.mem_cons]; exact ⟨.inr, fun h => h.resolve_left e⟩

/-- At launch a barrier is owed one unit by each neighbour of its device, by no other; -/
theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedL_bar, tallyAt_apply, tallyAt_apply, Nat.zero_add]
  congr 1
  · by_cases h : d = prv c
    · subst h; rw [show nxt (prv c) = c from tgt_org true c, if_pos ⟨rfl, rfl⟩, if_pos rfl]
    · rw [if_neg (fun ⟨h1, _⟩ => h (by rw [bar_eq_iff.mp h1]; exact (org_tgt true d).symm)), if_neg h]
  · by_cases h : d = nxt c
    · subst h; rw [show prv (nxt c) = c from org_tgt true c, if_pos ⟨rfl, rfl⟩, if_pos rfl]
    · rw [if_neg (fun ⟨h1, _⟩ => h (by rw [bar_eq_iff.mp h1]; exact (tgt_org true d).symm)), if_neg h]

/-- a receive cell is owed its hop's credit by the device that sends the hop, by no other. -/
theorem owed_recv (d c : Dev nD) (s : Slot) : O₀ d (recvCell c s) () = if d = org s.1 c then N else 0 := by
  unfold O₀ O₁
  rw [Pi.add_apply, Finsupp.add_apply, Pi.add_apply, Finsupp.add_apply, owedL_recv d c s order order_nodup,
    tallyAt_ne_cell (fun h => dma_ne_bar _ (congrArg Prod.snd h)), tallyAt_ne_cell (fun h => dma_ne_bar _ (congrArg Prod.snd h)),
    Finsupp.zero_apply, Nat.add_zero, Nat.add_zero]
  refine if_congr (and_iff_left ?_) rfl rfl
  rw [← List.mem_toFinset, ← order_univ]; exact Finset.mem_univ s

/-- So the launch's credit at a barrier is two units, -/
theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]
/-- at a receive cell one copy's. -/
theorem launch_recv (c : Dev nD) (s : Slot) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq' Finset.univ (org s.1 c) fun _ => N,
    if_pos (Finset.mem_univ _)]

/-- Different hops have different receive semaphores. -/
theorem recv_sem_injective : Function.Injective (fun s : Slot => (SemLoc.dma (xsem true s) : SemLoc sig)) := fun a b h =>
  congrArg Prod.snd (xsem_injective (a₁ := (true, a)) (a₂ := (true, b)) (SemLoc.dma.inj h))

omit [FloatOps F] in
/-- The credit of a device's barrier and of each of its receive cells. -/
theorem creds (c : Dev nD) :
    (Pipeline.launchCred O₀ c : sProp 𝕄) ⊢ iprop(cred (tallyAt (barCell c) () 2) ∗ bigSep Finset.univ fun s : Slot => cred (tallyAt (recvCell c s) () N)) := by
  unfold Pipeline.launchCred
  rw [bigSep_univ_at _ (SemLoc.reg barS), launch_bar]
  refine sep_mono_right ((bigSep_subset (t := Finset.univ.image fun s : Slot => (SemLoc.dma (xsem true s) : SemLoc sig)) ?_).trans ?_)
  · intro x hx
    obtain ⟨s, -, rfl⟩ := Finset.mem_image.mp hx
    exact Finset.mem_erase.mpr ⟨dma_ne_bar _, Finset.mem_univ _⟩
  · rw [bigSep_image_of_injOn recv_sem_injective.injOn]
    exact bigSep_mono fun s _ => Entails.of_eq (congrArg cred (launch_recv c s))

end Cert.Rings

end
-- ==== Proof.Launch.lean ====
/-
# The launch

The pipeline's proof data, its obligation for the body from the protocol's theorem, and the run of the whole program: it
ends, the arrays it reads are unchanged, each device's result is what its body stored, and every semaphore is back at zero.
-/
module

public import proofs.«01_k».proof.Proof.Ghost
public import Idealize.ShloMosaic.Lib.Pipeline.CollectiveSegs

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- What device `c`'s body starts from: its share of the rings, its credit, the levels. -/
def start (c : Dev nD) : sProp 𝕄 :=
  iprop(G' m c ∗ (cred (tallyAt (barCell c) () 2) ∗ bigSep Finset.univ fun s : Slot => cred (tallyAt (recvCell c s) () N)) ∗ levAts L lv)
/-- The buffers of packs and of slots. -/
def scr (c : Dev nD) : sProp 𝕄 := iprop(packAny c true ∗ packAny c false ∗ ringAny c true ∗ ringAny c false)
/-- What the body starts from, the staged arrays apart. -/
def Φ₀ (c : Dev nD) : sProp 𝕄 := iprop(start m c ∗ scr c)
/-- What it ends with: every semaphore at zero, the buffers. -/
def Φ₁ (c : Dev nD) : sProp 𝕄 := iprop(unscopedSems0 c
  ∗ Pipeline.ownSems0 (Ix := Unit) (Name := ℕ) (U := UU) (Lvl := ℕ) (Val := Elt F) (τ := τ) osem c ∗ scr c)

/-- The staging's contract: each input stays as it is, the result is what the body stores; the body starts from `Φ₀` owing `O₀`, and ends with `Φ₁` owing nothing. -/
def dats (_ : Fin 1) (c : Dev nD) : Dat τ (Elt F) Unit ℕ UU ℕ cfg0 c where
  A w := m ((cfg0.win w).arr.view.loc (c : Thread nD τ))
  after w _ := match w with
    | ⟨0, _⟩ => xC m c
    | ⟨1, _⟩ => winC m c 0
    | ⟨2, _⟩ => woutC m c 0
    | ⟨3, _⟩ => winC m c 1
    | ⟨4, _⟩ => woutC m c 1
    | ⟨5, _⟩ => winC m c 2
    | ⟨6, _⟩ => woutC m c 2
    | ⟨7, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body's obligation -/

section Body
variable (c : Dev nD)

/-- A staging buffer at contents `X`. -/
abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
omit [FloatOps F] in
/-- It is held at any contents equal to `X`; -/
theorem stg_elim {b : Ref sig .tc} {X Y : b.ty.Contents (Elt F)} (h : X = Y) :
    stg c b X ⊢ (((c : Thread nD τ).loc b) ↦{fullShare} (Y : Buf (Elt F) ((c : Thread nD τ).loc b)) : sProp 𝕄) := by
  iintro ⟨%f, %hf, H⟩
  subst h; subst hf; iexact H
omit [FloatOps F] in
/-- and from contents held it is made. -/
theorem stg_intro {b : Ref sig .tc} {Y : b.ty.Contents (Elt F)} :
    (((c : Thread nD τ).loc b) ↦{fullShare} (Y : Buf (Elt F) ((c : Thread nD τ).loc b)) : sProp 𝕄) ⊢ stg c b Y := by
  iintro H
  iexists Y; isplitr; · ipureintro; rfl
  iexact H

/-- The body finds the activations in the first staging buffer, -/
theorem before_0 (d) : (dats m 0 c).before (0 : Fin 8) t0_0 d = (xC m c) := by
  unfold Dat.before; rw [if_pos (fetch0_0 t0_0)]; rfl
/-- the first weights of layer 0 in the second, -/
theorem before_1 (d) : (dats m 0 c).before (1 : Fin 8) t0_0 d = (winC m c 0) := by
  unfold Dat.before; rw [if_pos (fetch0_1 t0_0)]; rfl
/-- its second weights in the third, -/
theorem before_2 (d) : (dats m 0 c).before (2 : Fin 8) t0_0 d = (woutC m c 0) := by
  unfold Dat.before; rw [if_pos (fetch0_2 t0_0)]; rfl
/-- the first weights of layer 1 in the fourth, -/
theorem before_3 (d) : (dats m 0 c).before (3 : Fin 8) t0_0 d = (winC m c 1) := by
  unfold Dat.before; rw [if_pos (fetch0_3 t0_0)]; rfl
/-- its second weights in the fifth, -/
theorem before_4 (d) : (dats m 0 c).before (4 : Fin 8) t0_0 d = (woutC m c 1) := by
  unfold Dat.before; rw [if_pos (fetch0_4 t0_0)]; rfl
/-- the first weights of layer 2 in the sixth, -/
theorem before_5 (d) : (dats m 0 c).before (5 : Fin 8) t0_0 d = (winC m c 2) := by
  unfold Dat.before; rw [if_pos (fetch0_5 t0_0)]; rfl
/-- its second weights in the seventh. -/
theorem before_6 (d) : (dats m 0 c).before (6 : Fin 8) t0_0 d = (woutC m c 2) := by
  unfold Dat.before; rw [if_pos (fetch0_6 t0_0)]; rfl

omit [FloatOps F] in
/-- A device's positions, cell by cell. -/
theorem pos_split : (bigSep Finset.univ fun k : CIx => atPos ER (kcell (c, k)) 0 ∅ 0)
    ⊢ (iprop(atPos ER (barCell c) 0 ∅ 0 ∗ (bigSep Finset.univ fun s : Slot => atPos ER (recvCell c s) 0 ∅ 0)
        ∗ bigSep Finset.univ fun s : Slot => atPos ER (sendCell c s) 0 ∅ 0) : sProp 𝕄) := by
  rw [bigSep_option, bigSep_univ_prod (fun k : Bool × Slot => _), bigSep_bool]

/-- What the body starts from, in the form its steps use. -/
theorem bg_intro (K : Dev nD × CIx → ℕ) :
    iprop((records m K ∗ linear c) ∗ ((cred (tallyAt (barCell c) () 2) ∗ bigSep Finset.univ fun s : Slot => cred (tallyAt (recvCell c s) () N)) ∗ levAts L lv)
        ∗ (ringAny c true ∗ ringAny c false) ∗ Ins m c ∗ ∃ W, owes (c : Thread nD τ) (O₀ c) W)
      ⊢ Bg m K c := by
  unfold linear payToks Bg ctx
  rw [sepL_eq _ _ order_nodup, sepL_eq _ _ order_nodup, ← order_univ]
  unfold preTok recvTok
  rw [bigSep_sep', bigSep_sep', bigSep_sep']
  iintro ⟨⟨HR, Hat, Htb, Htr, Hts⟩, ⟨⟨Hcb, Hcr⟩, Hlev⟩, ⟨Hrt, Hrf⟩, HI, HO⟩
  ihave Hp := (pos_split (F := F) c) $$ Hat
  icases Hp with ⟨Hab, Har, Has⟩
  isplitl [HR Hlev]
  · isplitl [HR] <;> iassumption
  isplitl [HI]; · iexact HI
  isplitl [HO]; · iexact HO
  isplitl [Htb]; · iexact Htb
  isplitl [Hrt Hrf]
  · isplitl [Hrt]
    · iapply (ring_split (F := F) c true); iexact Hrt
    · iapply (ring_split (F := F) c false); iexact Hrf
  isplitl [Hcb Hab]
  · isplitl [Hcb] <;> iassumption
  isplitl [Hts Htr Has]
  · isplitl [Hts]; · iexact Hts
    isplitl [Htr] <;> iassumption
  isplitl [Hcr] <;> iassumption

/-- What the body ends with, likewise. -/
theorem fin_intro (K : Dev nD × CIx → ℕ) :
    iprop(Dr m K c 18 ∗ Rest m c ∗ semVal (barCell c) 0) ⊢ (iprop(Φ₁ c ∗ Ins m c ∗ ∃ W, owes (c : Thread nD τ) 0 W) : sProp 𝕄) := by
  unfold Dr Rest owesL Φ₁ scr
  rw [unscopedSems0_eq]
  iintro ⟨⟨-, HO, -, Hb⟩, ⟨HI, Hd⟩, Hz⟩
  ihave H := (all_back m c) $$ [Hb Hd]
  · isplitl [Hd]; · iexact Hd
    iexact Hb
  icases H with ⟨Hr, Hs, ⟨Hpt, Hrt⟩, Hpf, Hrf⟩
  isplitr [HI HO]
  · isplitl [Hz]; · iexact Hz
    isplitl [Hr Hs]
    · iapply (ownSems0_of (F := F) c)
      isplitl [Hr] <;> iassumption
    isplitl [Hpt]; · iexact Hpt
    isplitl [Hpf]; · iexact Hpf
    isplitl [Hrt] <;> iassumption
  isplitl [HI]; · iexact HI
  iexact HO

/-- All that the body starts from; -/
def bodyPre (c : Dev nD) : sProp 𝕄 :=
  iprop(Φ₀ m c ∗ (dats m 0 c).owesAt () t0_0.castSucc
    ∗ (∃ d, stg c cc0_stg0_0 ((dats m 0 c).before (0 : Fin 8) t0_0 d))
    ∗ (∃ d, stg c cc0_stg1_0 ((dats m 0 c).before (1 : Fin 8) t0_0 d))
    ∗ (∃ d, stg c cc0_stg2_0 ((dats m 0 c).before (2 : Fin 8) t0_0 d))
    ∗ (∃ d, stg c cc0_stg3_0 ((dats m 0 c).before (3 : Fin 8) t0_0 d))
    ∗ (∃ d, stg c cc0_stg4_0 ((dats m 0 c).before (4 : Fin 8) t0_0 d))
    ∗ (∃ d, stg c cc0_stg5_0 ((dats m 0 c).before (5 : Fin 8) t0_0 d))
    ∗ (∃ d, stg c cc0_stg6_0 ((dats m 0 c).before (6 : Fin 8) t0_0 d))
    ∗ (∃ d, stg c cc0_stg7_0 ((dats m 0 c).before (7 : Fin 8) t0_0 d)))
/-- all that it ends with. -/
def bodyPost (c : Dev nD) : sProp 𝕄 :=
  iprop(Φ₁ c ∗ (dats m 0 c).owesAt () t0_0.succ
    ∗ stg c cc0_stg0_0 (xC m c) ∗ stg c cc0_stg1_0 (winC m c 0) ∗ stg c cc0_stg2_0 (woutC m c 0) ∗ stg c cc0_stg3_0 (winC m c 1) ∗ stg c cc0_stg4_0 (woutC m c 1) ∗ stg c cc0_stg5_0 (winC m c 2) ∗ stg c cc0_stg6_0 (woutC m c 2) ∗ stg c cc0_stg7_0 (outAt m c))

/-- The body runs from the one to the other. -/
theorem body_run (Kt : PUnit → sProp 𝕄) :
    iprop(bodyPre m c ∗ (bodyPost m c -∗ Kt ⟨⟩)) ⊢ Wp c (appl cc0_body) Kt := by
  unfold bodyPre Φ₀ start G' scr
  iintro ⟨⟨⟨⟨⟨%K, HK⟩, Hc⟩, Hpt, Hpf, Hrt, Hrf⟩, Ho, ⟨%d0, H0⟩, ⟨%d1, H1⟩, ⟨%d2, H2⟩, ⟨%d3, H3⟩, ⟨%d4, H4⟩, ⟨%d5, H5⟩, ⟨%d6, H6⟩, ⟨%d7, %f, %hf, H7⟩⟩, Hk⟩
  unfold Dat.owesAt Pipeline.owesWithin
  icases Ho with ⟨%W, %hW, HO⟩
  rw [show (dats m 0 c).owed t0_0.castSucc = O₀ c from rfl]
  ihave H0 := (stg_elim c (before_0 m c d0)) $$ H0
  ihave H1 := (stg_elim c (before_1 m c d1)) $$ H1
  ihave H2 := (stg_elim c (before_2 m c d2)) $$ H2
  ihave H3 := (stg_elim c (before_3 m c d3)) $$ H3
  ihave H4 := (stg_elim c (before_4 m c d4)) $$ H4
  ihave H5 := (stg_elim c (before_5 m c d5)) $$ H5
  ihave H6 := (stg_elim c (before_6 m c d6)) $$ H6
  ihave HB := (bg_intro m c K) $$ [HK Hc Hrt Hrf HO H0 H1 H2 H3 H4 H5 H6]
  · isplitl [HK]; · iexact HK
    isplitl [Hc]; · iexact Hc
    isplitl [Hrt Hrf]
    · isplitl [Hrt] <;> iassumption
    isplitr [HO]
    · unfold Ins
      isplitl [H0]; · iexact H0
      isplitl [H1]; · iexact H1
      isplitl [H2]; · iexact H2
      isplitl [H3]; · iexact H3
      isplitl [H4]; · iexact H4
      isplitl [H5]; · iexact H5
      iexact H6
    · iexists W; iexact HO
  ihave HT := (pack_split (F := F) c true) $$ Hpt
  ihave HF := (pack_split (F := F) c false) $$ Hpf
  iapply (sound_body m K c f Kt) $$ [HB HT HF H7]
  · isplitl [HB]; · iexact HB
    isplitr [H7]
    · isplitl [HT] <;> iassumption
    iexact H7
  iintro ⟨HD, HR, Hout, Hz⟩
  iapply Hk
  ihave HE := (fin_intro m c K) $$ [HD HR Hz]
  · isplitl [HD]; · iexact HD
    isplitl [HR] <;> iassumption
  icases HE with ⟨HΦ, HI, ⟨%W', HO⟩⟩
  unfold bodyPost Dat.owesAt Pipeline.owesWithin Ins
  rw [show (dats m 0 c).owed t0_0.succ = 0 from rfl]
  icases HI with ⟨H0, H1, H2, H3, H4, H5, H6⟩
  isplitl [HΦ]; · iexact HΦ
  isplitl [HO]
  · iexists W'
    isplitr; · ipureintro; exact fun _ _ => Or.inl trivial
    iexact HO
  isplitl [H0]; · iapply (stg_intro (F := F) c); iexact H0
  isplitl [H1]; · iapply (stg_intro (F := F) c); iexact H1
  isplitl [H2]; · iapply (stg_intro (F := F) c); iexact H2
  isplitl [H3]; · iapply (stg_intro (F := F) c); iexact H3
  isplitl [H4]; · iapply (stg_intro (F := F) c); iexact H4
  isplitl [H5]; · iapply (stg_intro (F := F) c); iexact H5
  isplitl [H6]; · iapply (stg_intro (F := F) c); iexact H6
  iapply (stg_intro (F := F) c); iexact Hout

set_option maxRecDepth 8000 in
/-- The library's obligation for the body on core `c`. -/
theorem body_obligation : BodyObligation (dats (F := F) m 0 c) (defs₀ (F := F)) 𝒱₀ () Set.univ := fun t => by
  rw [show t = t0_0 from fin_N0 t]
  rw [show ∀ Φ : Fin cfg0.W → sProp 𝕄, bigSep Finset.univ Φ = _ from fun Φ => bigSep_W0 Φ, show ∀ Φ : Fin cfg0.W → sProp 𝕄, bigSep Finset.univ Φ = _ from fun Φ => bigSep_W0 Φ]
  simp only [owns_whole_eq]
  show bodyPre m c ⊢ Wp c (appl cc0_body) (fun _ => bodyPost m c)
  iintro H
  iapply (body_run m c fun _ => bodyPost m c)
  isplitl [H]; · iexact H
  iintro H; iexact H

end Body

/-! ## The side conditions -/

/-- The kernel's own semaphores are scoped ones, apart from the staging's. -/
theorem ownSemFacts : Pipeline.OwnSemFacts cfg0.spec osem := by decide

/-- Every window's array is held whole. -/
theorem share_eq (c : Dev nD) (w : Fin cfg0.W) : (dats m 0 c).share w = fullShare := by unfold Dat.share; split <;> rfl

omit [FloatOps F] in
/-- The buffers of packs and slots are all the scratch that the launch hands over. -/
theorem scr_eq (c : Dev nD) : (scr c : sProp 𝕄) = Pipeline.scopedRest cfg0.spec c := (scopedRest0_eq c).symm

/-- From what the launch gives a device, what its body starts from is made; -/
theorem start_intro (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

/-- with the scratch it is `Φ₀`; -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl]
  unfold Φ₀
  rw [scr_eq]
  iintro ⟨Hs, -, Hr⟩
  isplitl [Hs] <;> iassumption

/-- `Φ₁` gives the semaphores at zero and the scratch back. -/
theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ c from rfl]
  unfold Φ₁
  rw [scr_eq]

/-- The staging may wait for its own copies at any time: their level is below everything owed. -/
theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (by fin_cases w <;> fin_cases s <;> rfl)
    · show (levAts L lv : sProp 𝕄) ⊢ MayWait (c : Thread nD τ) _ () 0
      rw [MayWait_zero]
      iintro -; iempintro

/-! ## The run -/

set_option maxRecDepth 8000 in
/-- From any memory with every semaphore at zero the four devices' program ends; then each windowed array is what the
    pipeline's data says, and every semaphore is at zero. -/
theorem run_main (ρ : Dev nD → PrngReg) : θ_run defs (onTc (τ := τ) (main (F := F))) ⟨m, fun _ => 0, ρ⟩
    (fun r => (∀ c : Dev nD, ∀ w : Fin cfg0.W, r.2.mem ((cfg0.win w).arr.view.loc (c : Thread nD τ)) = (dats m 0 c).arrAt w cfg0.N)
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Rings

end
-- ==== Proof.Arrays.lean ====
/-
# The arrays after the run

Every argument is as it was; each device's result is what its body stored.
-/
module

public import proofs.«01_k».proof.Proof.Launch

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Every device's arguments are as they were. -/
def Kept (mem : (ℓ : Loc nD τ sig) → Buf (Elt F) ℓ) : Prop := ∀ c : Dev nD,
    mem ((c : Thread nD τ).loc main_arg0) = m ((c : Thread nD τ).loc main_arg0)
    ∧ mem ((c : Thread nD τ).loc main_arg1) = m ((c : Thread nD τ).loc main_arg1)
    ∧ mem ((c : Thread nD τ).loc main_arg2) = m ((c : Thread nD τ).loc main_arg2)
    ∧ mem ((c : Thread nD τ).loc main_arg3) = m ((c : Thread nD τ).loc main_arg3)
    ∧ mem ((c : Thread nD τ).loc main_arg4) = m ((c : Thread nD τ).loc main_arg4)
    ∧ mem ((c : Thread nD τ).loc main_arg5) = m ((c : Thread nD τ).loc main_arg5)
    ∧ mem ((c : Thread nD τ).loc main_arg6) = m ((c : Thread nD τ).loc main_arg6)

/-- If the memory at the end holds what each window's array ends with, the arguments are as they were: an input's array is not written. -/
theorem kept_of {mem : (ℓ : Loc nD τ sig) → Buf (Elt F) ℓ}
    (h : ∀ c : Dev nD, ∀ w : Fin cfg0.W, mem ((cfg0.win w).arr.view.loc (c : Thread nD τ)) = (dats m 0 c).arrAt w cfg0.N) : Kept m mem := fun c =>
  ⟨(h c (0 : Fin 8)).trans ((dats m 0 c).arrAt_in (0 : Fin 8) rfl _),
    (h c (1 : Fin 8)).trans ((dats m 0 c).arrAt_in (1 : Fin 8) rfl _),
    (h c (3 : Fin 8)).trans ((dats m 0 c).arrAt_in (3 : Fin 8) rfl _),
    (h c (5 : Fin 8)).trans ((dats m 0 c).arrAt_in (5 : Fin 8) rfl _),
    (h c (2 : Fin 8)).trans ((dats m 0 c).arrAt_in (2 : Fin 8) rfl _),
    (h c (4 : Fin 8)).trans ((dats m 0 c).arrAt_in (4 : Fin 8) rfl _),
    (h c (6 : Fin 8)).trans ((dats m 0 c).arrAt_in (6 : Fin 8) rfl _)⟩

/-- Offsets which are multiples by zero are zero. -/
theorem zero_mul_size {n : ℕ} (i : Fin n → ℕ) (size : Fin n → ℕ) (h : i = fun _ => 0 := by rfl) : (fun a => i a * size a) = fun _ => 0 := by
  subst h; funext a; exact Nat.zero_mul _

/-- Each device's result is the value its body stored. -/
theorem out_at (c : Dev nD) : (dats m 0 c).arrAt (7 : Fin 8) cfg0.N = outAt m c := by
  rw [show cfg0.N = t0_0.val + 1 from rfl, (dats m 0 c).arrAt_succ (7 : Fin 8) t0_0, if_pos (flush0_7 t0_0)]
  show (win0_7.blk t0_0).view.write (Elt F) _ (outAt m c) Finset.univ = _
  exact Memref.write_access_unit_zero_univ (Elt F) main_v1 (zero_mul_size _ _) (fun a => by fin_cases a <;> decide) _ _

/-- The run with both: the arguments are kept, and each device's result is what its body stored. -/
theorem run_value (g : Dev nD → PrngReg) : θ_run (defs (F := F)) (onTc (τ := τ) (main (F := F))) ⟨m, fun _ => 0, g⟩
    (fun r => Kept m r.2.mem ∧ ∀ c : Dev nD, r.2.mem ((c : Thread nD τ).loc main_v1) = outAt m c) :=
  (run_main m g).mono fun r h => ⟨kept_of m h.1, fun c => (h.1 c (7 : Fin 8)).trans (out_at m c)⟩

/-- The run keeps the arguments and leaves every semaphore at zero. -/
theorem run_kept (g : Dev nD → PrngReg) : θ_run (defs (F := F)) (onTc (τ := τ) (main (F := F))) ⟨m, fun _ => 0, g⟩
    (fun r => Kept m r.2.mem ∧ r.2.sem = fun _ => 0) :=
  (run_main m g).mono fun r h => ⟨kept_of m h.1, h.2⟩

end Cert.Rings

end
-- ==== Proof.Value.lean ====
/-
# What a device stores, as three layers

Each layer is its own weights' products and the two rings' at each hop. Over the extended reals the layer is the whole
layer's sum over the hidden units, taken device by device and half by half.
-/
module

public import proofs.«01_k».proof.Proof.Arrays
public import Idealize.ShloMosaic.Lib.MatmulPlain
public import Idealize.ShloMosaic.Lib.ValueIdx
public import Idealize.ShloMosaic.Lib.Pipeline.Value

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The layers -/

/-- What a 256-wide part of the weights adds: the activations times `A`, the negative set to zero, times `B`. -/
def half (X : FVec F S512x256 .bf16) (A B : FVec F S256x256 .bf16) : FVec F S512x256 .f32 :=
  matmul dot_S512x256_S256x256_S512x256_1_0_0_1_n_n none
    (truncf .bf16 (maximumf (matmul dot_S512x256_S256x256_S512x256_1_0_0_1_n_n none X A (constant S512x256 .f32 0x00000000#32))
      (broadcast S512x256 (Scalar.ofBits .f32 0x00000000#32))) bitsLt_bf16_f32) B (constant S512x256 .f32 0x00000000#32)

/-- What a device's own weights add. -/
def own (X : FVec F S512x256 .bf16) (w : S256x512.Idx → Elt F .f32) (v : S512x256.Idx → Elt F .f32) : FVec F S512x256 .f32 :=
  matmul dot_S512x512_S512x256_S512x256_1_0_0_1_n_n none
    (truncf .bf16 (maximumf (matmul dot_S512x256_S256x512_S512x512_1_0_0_1_n_n none X
        (truncf .bf16 (shapeCast S256x512 (w : Vec F S256x512 .f32) shapeCasts_S256x512_S256x512) bitsLt_bf16_f32) (constant S512x512 .f32 0x00000000#32))
      (broadcast S512x512 (Scalar.ofBits .f32 0x00000000#32))) bitsLt_bf16_f32)
    (truncf .bf16 (shapeCast S512x256 (v : Vec F S512x256 .f32) shapeCasts_S512x256_S512x256) bitsLt_bf16_f32) (constant S512x256 .f32 0x00000000#32)

/-- A row of a slab as a matrix. -/
def mat (X : S2x256x256.Idx → Elt F .bf16) (k : Fin 2) : FVec F S256x256 .bf16 :=
  shapeCast S256x256 (row X k : Vec F S1x1x1x256x256 .bf16) shapeCasts_S1x1x1x256x256_S256x256

/-- What the two slabs that land at a hop add. -/
def both (X : FVec F S512x256 .bf16) (R L : S2x256x256.Idx → Elt F .bf16) : FVec F S512x256 .f32 :=
  addf (half X (mat R 0) (mat R 1)) (half X (mat L 0) (mat L 1))

/-- A layer as a device adds it up. -/
def layer (c : Dev nD) (l : Fin 3) (X : FVec F S512x256 .bf16) : FVec F S512x256 .f32 :=
  addf (addf (addf (own X (winC m c l) (woutC m c l)) (both X (landV m c (true, l, 0)) (landV m c (false, l, 0))))
    (both X (landV m c (true, l, 1)) (landV m c (false, l, 1)))) (both X (landV m c (true, l, 2)) (landV m c (false, l, 2)))

/-- The second layer takes the first's sum, rounded; -/
theorem x2_eq (c : Dev nD) : x2 m c = truncf .bf16 (layer m c 0 (x1 m c)) bitsLt_bf16_f32 := rfl
/-- the third the second's; -/
theorem x3_eq (c : Dev nD) : x3 m c = truncf .bf16 (layer m c 1 (x2 m c)) bitsLt_bf16_f32 := rfl
/-- and the result is the third's. -/
theorem out_eq (c : Dev nD) : outAt m c = layer m c 2 (x3 m c) := rfl

/-! ## Over the extended reals -/

section Ideal

open Idealize.ShloMosaic.ValueIdx

/-- The part of a layer that hidden unit `j` adds at an entry. -/
def unit {n : ℕ} (X : Fin 256 → EReal) (A : Fin 256 → Fin n → EReal) (B : Fin n → EReal) (j : Fin n) : EReal := max (∑ i : Fin 256, X i * A i j) 0 * B j

/-- A product into zeros at an entry. -/
theorem dot_apply {M K N : ℕ} {φ₁ φ₂ : FTy} (A : FVec Ideal ⟨2, ![M, K]⟩ φ₁) (B : FVec Ideal ⟨2, ![K, N]⟩ φ₂) (r : Fin M) (c : Fin N) :
    matmul (DotDims.plain M K N) none A B (constant ⟨2, ![M, N]⟩ .f32 0x00000000#32) (ix2 r c) = ∑ k : Fin K, A (ix2 r k) * B (ix2 k c) := by
  refine (Ideal.matmul_plain_apply _ _ _ _ _ _).trans ?_
  show Ideal.ofBits .f32 0x00000000#32 + _ = _
  rw [Ideal.ofBits_zero_f32, zero_add]

/-- A product, the negative set to zero, times another, at an entry. -/
theorem relu_apply {n : ℕ} (X : FVec Ideal ⟨2, ![512, 256]⟩ .bf16) (A : FVec Ideal ⟨2, ![256, n]⟩ .bf16) (B : FVec Ideal ⟨2, ![n, 256]⟩ .bf16) (r : Fin 512) (k : Fin 256) :
    matmul (DotDims.plain 512 n 256) none
      (truncf .bf16 (maximumf (matmul (DotDims.plain 512 256 n) none X A (constant ⟨2, ![512, n]⟩ .f32 0x00000000#32))
        (broadcast ⟨2, ![512, n]⟩ (Scalar.ofBits .f32 0x00000000#32))) bitsLt_bf16_f32) B (constant ⟨2, ![512, 256]⟩ .f32 0x00000000#32) (ix2 r k)
      = ∑ j : Fin n, unit (fun i => X (ix2 r i)) (fun i j => A (ix2 i j)) (fun j => B (ix2 j k)) j := by
  rw [dot_apply]
  refine Finset.sum_congr rfl fun j _ => ?_
  show max (matmul (DotDims.plain 512 256 n) none X A _ (ix2 r j)) (Ideal.ofBits .f32 0x00000000#32) * B (ix2 j k) = _
  rw [dot_apply, Ideal.ofBits_zero_f32]; rfl

/-- What a part of the weights adds at an entry: the sum over its hidden units. -/
theorem half_apply (X : FVec Ideal S512x256 .bf16) (A B : FVec Ideal S256x256 .bf16) (r : Fin 512) (k : Fin 256) :
    half X A B (ix2 r k) = ∑ j : Fin 256, unit (fun i => X (ix2 r i)) (fun i j => A (ix2 i j)) (fun j => B (ix2 j k)) j :=
  relu_apply X A B r k

/-- What a device's own weights add at an entry. -/
theorem own_apply (X : FVec Ideal S512x256 .bf16) (w : S256x512.Idx → Elt Ideal .f32) (v : S512x256.Idx → Elt Ideal .f32) (r : Fin 512) (k : Fin 256) :
    own X w v (ix2 r k) = ∑ j : Fin 512, unit (fun i => X (ix2 r i)) (fun i j => w (ix2 i j)) (fun j => v (ix2 j k)) j := by
  unfold own
  rw [shapeCast_self, shapeCast_self]
  exact relu_apply (n := 512) X _ _ r k

end Ideal

end Cert.Rings

end
-- ==== Proof.Whole.lean ====
/-
# A layer on a device is the whole layer at the device's rows

The weights lie in blocks on the devices; the slabs that come round the rings are the other devices' halves. So the parts
a device adds are, in another order, the sum over all hidden units.
-/
module

public import proofs.«01_k».proof.Proof.Value
public import Idealize.ShloMosaic.Lib.Pointwise.Sums
public import Idealize.ShloMosaic.Lib.StackMember
public import proofs.«01_k».proof.Proof.Gen.ReferenceIdeal.Run

@[expose] public section

noncomputable section

namespace Cert.Rings

open Cert.KernelIdeal Cert.KernelIdeal.Gen

open Idealize.ShloMosaic hiding ix2 ix3 ix4 ix5 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ)

/-! ## What lands -/

/-- Where a ring's half begins. -/
def off : Bool → ℕ | true => 0 | false => 256
/-- A half begins at 256 at the latest, so it lies within the block. -/
theorem off_le (d : Bool) : off d ≤ 256 := by cases d <;> decide
/-- The device whose weights land in a slot. -/
def src (c : Dev nD) (s : Slot) : Dev nD := back s.1 s.2.2.val (org s.1 c)

/-- An entry of a half of the first weights is the block's entry in the half's column; -/
theorem inHalf_apply (w : S256x512.Idx → EReal) (d : Bool) (i j : Fin 256) :
    inHalf (F := Ideal) w d (ix2 i j) = w (ix2 i (⟨off d + j.val, by have := off_le d; omega⟩ : Fin 512)) := by
  cases d <;> refine congrArg w (funext fun a => Fin.ext ?_) <;> fin_cases a <;> simp [inR, off]

/-- of the second weights the block's entry in the half's row. -/
theorem outHalf_apply (w : S512x256.Idx → EReal) (d : Bool) (j k : Fin 256) :
    outHalf (F := Ideal) w d (ix2 j k) = w (ix2 (⟨off d + j.val, by have := off_le d; omega⟩ : Fin 512) k) := by
  cases d <;> refine congrArg w (funext fun a => Fin.ext ?_) <;> fin_cases a <;> simp [outR, off]

/-- A block put in a pack and taken out again is the block. -/
theorem pay1_apply (v : S256x256.Idx → EReal) (i j : Fin 256) : k0_pay1 (F := Ideal) v (ix4 0 0 i j) = v (ix2 i j) := by
  unfold k0_pay1
  rw [shapeCast_self]
  refine (shapeCast_apply _ _ _ (ix2 i j) ?_).trans rfl
  rw [Shape.rowMajor_val_two, Shape.rowMajor_val_four]
  simp

/-- An entry of a row of a slot, taken as a matrix. -/
theorem mat_apply (X : S2x256x256.Idx → EReal) (k : Fin 2) (i j : Fin 256) : mat (F := Ideal) X k (ix2 i j) = X (ix3 k i j) := by
  unfold mat
  refine (shapeCast_apply _ _ _ (ix5 0 0 0 i j) ?_).trans ?_
  · rw [Shape.rowMajor_val_two, Shape.rowMajor_val_five]; simp
  · refine congrArg X (funext fun a => ?_)
    fin_cases a <;> rfl

/-- What lands first in a slot is the half of the first weights of the device it came from; -/
theorem land_in (c : Dev nD) (s : Slot) (i j : Fin 256) :
    mat (landV m c s) 0 (ix2 i j) = winC m (src c s) s.2.1 (ix2 i (⟨off s.1 + j.val, by have := off_le s.1; omega⟩ : Fin 512)) := by
  rw [mat_apply, ← inHalf_apply (winC m (src c s) s.2.1) s.1, ← pay1_apply (inHalf (F := Ideal) _ _)]
  unfold landV sendV packV pair
  refine (if_pos rfl).trans (congrArg _ (funext fun a => ?_))
  fin_cases a <;> rfl

/-- what lands second is the half of its second weights. -/
theorem land_out (c : Dev nD) (s : Slot) (j k : Fin 256) :
    mat (landV m c s) 1 (ix2 j k) = woutC m (src c s) s.2.1 (ix2 (⟨off s.1 + j.val, by have := off_le s.1; omega⟩ : Fin 512) k) := by
  rw [mat_apply, ← outHalf_apply (woutC m (src c s) s.2.1) s.1, ← pay1_apply (outHalf (F := Ideal) _ _)]
  unfold landV sendV packV pair
  refine (if_neg Nat.one_ne_zero).trans (congrArg _ (funext fun a => ?_))
  fin_cases a <;> rfl

/-! ## The sum over the hidden units -/

/-- The sum of a device's half. -/
def part (f : Fin 2048 → EReal) (c : Dev nD) (d : Bool) : EReal :=
  ∑ j : Fin 256, f ⟨c.val * 512 + (off d + j.val), by have := off_le d; have : c.val < 4 := c.isLt; omega⟩

/-- A device's two halves make its block. -/
theorem part_two (f : Fin 2048 → EReal) (c : Dev nD) :
    (∑ j : Fin 512, f ⟨c.val * 512 + j.val, by have : c.val < 4 := c.isLt; omega⟩) = part f c true + part f c false := by
  rw [Fin.sum_univ_two_halves 256 256 rfl]
  refine congrArg₂ (· + ·) (Finset.sum_congr rfl fun j _ => congrArg f (Fin.ext ?_)) (Finset.sum_congr rfl fun j _ => congrArg f (Fin.ext ?_)) <;> simp [off]

/-- All the halves make the whole sum. -/
theorem part_all (f : Fin 2048 → EReal) : (∑ j, f j) = ∑ c : Fin 4, (part f c true + part f c false) := by
  rw [Fin.sum_univ_tiles 4 512 rfl]
  exact Finset.sum_congr rfl fun c _ => part_two f c

/-- A device's own block, and hop by hop the first half of the device behind it and the second of the device ahead, are all the halves. -/
theorem part_round (f : Fin 2048 → EReal) (c : Dev nD) (l : Fin 3) :
    (((part f c true + part f c false) + (part f (src c (true, l, 0)) true + part f (src c (false, l, 0)) false))
      + (part f (src c (true, l, 1)) true + part f (src c (false, l, 1)) false))
      + (part f (src c (true, l, 2)) true + part f (src c (false, l, 2)) false) = ∑ j, f j := by
  rw [part_all, Fin.sum_univ_four]
  generalize part f = p
  have h : ∀ (c : Dev nD) (l : Fin 3),
      (src c (true, l, 0) = prv c ∧ src c (true, l, 1) = prv (prv c) ∧ src c (true, l, 2) = prv (prv (prv c)))
      ∧ (src c (false, l, 0) = nxt c ∧ src c (false, l, 1) = nxt (nxt c) ∧ src c (false, l, 2) = nxt (nxt (nxt c))) := fun _ _ => ⟨⟨rfl, rfl, rfl⟩, rfl, rfl, rfl⟩
  obtain ⟨⟨h1, h2, h3⟩, h4, h5, h6⟩ := h c l
  rw [h1, h2, h3, h4, h5, h6]
  have hc : c = (0 : Fin 4) ∨ c = (1 : Fin 4) ∨ c = (2 : Fin 4) ∨ c = (3 : Fin 4) := (by decide : ∀ c : Fin 4, c = 0 ∨ c = 1 ∨ c = 2 ∨ c = 3) c
  have e0 : nxt (0 : Fin 4) = (1 : Fin 4) := rfl
  have e1 : nxt (1 : Fin 4) = (2 : Fin 4) := rfl
  have e2 : nxt (2 : Fin 4) = (3 : Fin 4) := rfl
  have e3 : nxt (3 : Fin 4) = (0 : Fin 4) := rfl
  have p0 : prv (0 : Fin 4) = (3 : Fin 4) := rfl
  have p1 : prv (1 : Fin 4) = (0 : Fin 4) := rfl
  have p2 : prv (2 : Fin 4) = (1 : Fin 4) := rfl
  have p3 : prv (3 : Fin 4) = (2 : Fin 4) := rfl
  rcases hc with rfl | rfl | rfl | rfl <;> simp only [e0, e1, e2, e3, p0, p1, p2, p3] <;> abel

/-! ## A layer -/

/-- The whole weights, of which each device has its block: first weights by columns, second by rows. -/
structure Cut (W : Fin 3 → (⟨2, ![256, 2048]⟩ : Shape).Idx → EReal) (V : Fin 3 → (⟨2, ![2048, 256]⟩ : Shape).Idx → EReal) : Prop where
  w : ∀ (c : Dev nD) (l : Fin 3) (i : Fin 256) (j : Fin 512), winC m c l (ix2 i j) = W l (ix2 i (⟨c.val * 512 + j.val, by have : c.val < 4 := c.isLt; omega⟩ : Fin 2048))
  v : ∀ (c : Dev nD) (l : Fin 3) (j : Fin 512) (k : Fin 256), woutC m c l (ix2 j k) = V l (ix2 (⟨c.val * 512 + j.val, by have : c.val < 4 := c.isLt; omega⟩ : Fin 2048) k)

variable {m} {W : Fin 3 → (⟨2, ![256, 2048]⟩ : Shape).Idx → EReal} {V : Fin 3 → (⟨2, ![2048, 256]⟩ : Shape).Idx → EReal}

/-- What a hidden unit of layer `l` adds to column `k` of the row of activations `X`. -/
def hid (W : Fin 3 → (⟨2, ![256, 2048]⟩ : Shape).Idx → EReal) (V : Fin 3 → (⟨2, ![2048, 256]⟩ : Shape).Idx → EReal) (l : Fin 3) (X : Fin 256 → EReal) (k : Fin 256) (j : Fin 2048) : EReal :=
  unit X (fun i j => W l (ix2 i j)) (fun j => V l (ix2 j k)) j

/-- The product of a hop is the sum over the hidden units that landed; -/
theorem half_land (h : Cut m W V) (c : Dev nD) (s : Slot) (X : FVec Ideal S512x256 .bf16) (r : Fin 512) (k : Fin 256) :
    half X (mat (landV m c s) 0) (mat (landV m c s) 1) (ix2 r k) = part (hid W V s.2.1 (fun i => X (ix2 r i)) k) (src c s) s.1 := by
  rw [half_apply]
  refine Finset.sum_congr rfl fun j _ => ?_
  show max (∑ i : Fin 256, X (ix2 r i) * mat (landV m c s) 0 (ix2 i j)) 0 * mat (landV m c s) 1 (ix2 j k) = _
  simp only [land_in, land_out, h.w, h.v]
  rfl

/-- a device's own product is the sum over its own hidden units, as two halves. -/
theorem own_land (h : Cut m W V) (c : Dev nD) (l : Fin 3) (X : FVec Ideal S512x256 .bf16) (r : Fin 512) (k : Fin 256) :
    own X (winC m c l) (woutC m c l) (ix2 r k) = part (hid W V l (fun i => X (ix2 r i)) k) c true + part (hid W V l (fun i => X (ix2 r i)) k) c false := by
  rw [own_apply, ← part_two]
  refine Finset.sum_congr rfl fun j _ => ?_
  show max (∑ i : Fin 256, X (ix2 r i) * winC m c l (ix2 i j)) 0 * woutC m c l (ix2 j k) = _
  simp only [h.w, h.v]
  rfl

/-- A layer at an entry is the sum over all hidden units. -/
theorem layer_apply (h : Cut m W V) (c : Dev nD) (l : Fin 3) (X : FVec Ideal S512x256 .bf16) (r : Fin 512) (k : Fin 256) :
    layer m c l X (ix2 r k) = ∑ j, hid W V l (fun i => X (ix2 r i)) k j := by
  rw [← part_round _ c l, ← own_land h, ← half_land h c (true, l, 0), ← half_land h c (true, l, 1), ← half_land h c (true, l, 2),
    ← half_land h c (false, l, 0), ← half_land h c (false, l, 1), ← half_land h c (false, l, 2)]
  rfl

/-! ## The reference's layer -/

/-- A layer as the reference takes it. -/
def whole (X : FVec Ideal ⟨2, ![2048, 256]⟩ .f32) (w : FVec Ideal ⟨2, ![256, 2048]⟩ .f32) (v : FVec Ideal ⟨2, ![2048, 256]⟩ .f32) : FVec Ideal ⟨2, ![2048, 256]⟩ .f32 :=
  Host.dotGeneral Cert.ReferenceIdeal.dot_S2048x2048_S2048x256_S2048x256_1_0_0_1_n_n none
    (maximumf (Host.dotGeneral Cert.ReferenceIdeal.dot_S2048x256_S256x2048_S2048x2048_1_0_0_1_n_n none X w)
      (broadcastInDim Cert.ReferenceIdeal.S2048x2048 ![] Cert.ReferenceIdeal.Facts₀.bcast_S_S2048x2048 (constant Cert.ReferenceIdeal.S_ .f32 0x00000000#32))) v

/-- The reference's layer at an entry is the same sum over all hidden units. -/
theorem whole_apply (X : FVec Ideal ⟨2, ![2048, 256]⟩ .f32) (l : Fin 3) (R : Fin 2048) (k : Fin 256) :
    whole X (W l) (V l) (ix2 R k) = ∑ j, hid W V l (fun i => X (ix2 R i)) k j := by
  unfold whole
  rw [show Cert.ReferenceIdeal.dot_S2048x2048_S2048x256_S2048x256_1_0_0_1_n_n = DotDims.plain 2048 2048 256 from rfl,
    show Cert.ReferenceIdeal.dot_S2048x256_S256x2048_S2048x2048_1_0_0_1_n_n = DotDims.plain 2048 256 2048 from rfl, StackMember.dotGeneral_plain_apply]
  refine Finset.sum_congr rfl fun j _ => ?_
  show max (Host.dotGeneral (DotDims.plain 2048 256 2048) none X (W l) (ix2 R j)) (Ideal.ofBits .f32 0x00000000#32) * V l (ix2 j k) = _
  rw [StackMember.dotGeneral_plain_apply, Ideal.ofBits_zero_f32]
  rfl

/-- A device's layer on its rows of the activations is its rows of the whole layer. -/
theorem layer_block (h : Cut m W V) (c : Dev nD) (l : Fin 3) (X : FVec Ideal S512x256 .bf16) (Y : FVec Ideal ⟨2, ![2048, 256]⟩ .f32)
    (hX : X = Layout.block ⟨2, ![512, 256]⟩ ⟨2, ![2048, 256]⟩ 0 4 c Y) :
    layer m c l X = Layout.block ⟨2, ![512, 256]⟩ ⟨2, ![2048, 256]⟩ 0 4 c (whole Y (W l) (V l)) := by
  have hi : ∀ (Z : FVec Ideal ⟨2, ![2048, 256]⟩ .f32) (r : Fin 512) (k : Fin 256),
      (Layout.block ⟨2, ![512, 256]⟩ ⟨2, ![2048, 256]⟩ 0 4 c Z) (ix2 r k) = Z (ix2 (⟨c.val * 512 + r.val, by have : c.val < 4 := c.isLt; omega⟩ : Fin 2048) k) := fun Z r k =>
    congrArg Z (funext fun a => by fin_cases a <;> rfl)
  funext i
  obtain ⟨r, k, rfl⟩ : ∃ (r : Fin 512) (k : Fin 256), i = ix2 r k := ⟨i 0, i 1, eq_ix2 i⟩
  rw [layer_apply h, hi, whole_apply, hX]
  simp only [hi]

/-- Each device's result is its rows of the three whole layers. -/
theorem out_block (h : Cut m W V) (Y : FVec Ideal ⟨2, ![2048, 256]⟩ .f32) (hx : ∀ c, xC m c = Layout.block ⟨2, ![512, 256]⟩ ⟨2, ![2048, 256]⟩ 0 4 c Y) (c : Dev nD) :
    outAt m c = Layout.block ⟨2, ![512, 256]⟩ ⟨2, ![2048, 256]⟩ 0 4 c (whole (whole (whole Y (W 0) (V 0)) (W 1) (V 1)) (W 2) (V 2)) := by
  rw [out_eq]
  refine layer_block h c 2 _ _ ?_
  rw [x3_eq]
  refine (show _ = layer m c 1 (x2 m c) from rfl).trans (layer_block h c 1 _ _ ?_)
  rw [x2_eq]
  refine (show _ = layer m c 0 (x1 m c) from rfl).trans (layer_block h c 0 _ _ ?_)
  rw [← hx c]
  unfold x1 k0_pay14
  rw [shapeCast_self]; rfl

end Cert.Rings

end
-- ==== Proof.Agree.lean ====
/-
# The value claim

Each device's result is its rows of the reference's.
-/
module

public import proofs.«01_k».proof.Defs
public import proofs.«01_k».proof.Proof.Whole

@[expose] public section

noncomputable section

namespace Cert.Rings

open Cert.KernelIdeal Cert.KernelIdeal.Gen

open Idealize.ShloMosaic hiding ix2 ix3 ix4 ix5 eq_ix2
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

section Staged
variable {F : FTy → Type} [FloatOps F] (m : (ℓ : Loc nD τ sig) → Buf (Elt F) ℓ) (c : Dev nD)

/-! ## What is staged is the argument -/

/-- The staged activations are the first argument. -/
theorem xC_eq : xC m c = m ((c : Thread nD τ).loc main_arg0) :=
  Memref.read_access_unit_zero (Elt F) main_arg0 (zero_mul_size _ _) (fun a => by fin_cases a <;> decide) _
/-- The staged first weights of the first layer are the second argument; -/
theorem winC_0 : winC m c 0 = m ((c : Thread nD τ).loc main_arg1) :=
  Memref.read_access_unit_zero (Elt F) main_arg1 (zero_mul_size _ _) (fun a => by fin_cases a <;> decide) _
/-- of the second layer the third; -/
theorem winC_1 : winC m c 1 = m ((c : Thread nD τ).loc main_arg2) :=
  Memref.read_access_unit_zero (Elt F) main_arg2 (zero_mul_size _ _) (fun a => by fin_cases a <;> decide) _
/-- of the third layer the fourth. -/
theorem winC_2 : winC m c 2 = m ((c : Thread nD τ).loc main_arg3) :=
  Memref.read_access_unit_zero (Elt F) main_arg3 (zero_mul_size _ _) (fun a => by fin_cases a <;> decide) _
/-- The staged second weights of the first layer are the fifth argument; -/
theorem woutC_0 : woutC m c 0 = m ((c : Thread nD τ).loc main_arg4) :=
  Memref.read_access_unit_zero (Elt F) main_arg4 (zero_mul_size _ _) (fun a => by fin_cases a <;> decide) _
/-- of the second layer the sixth; -/
theorem woutC_1 : woutC m c 1 = m ((c : Thread nD τ).loc main_arg5) :=
  Memref.read_access_unit_zero (Elt F) main_arg5 (zero_mul_size _ _) (fun a => by fin_cases a <;> decide) _
/-- of the third layer the seventh. -/
theorem woutC_2 : woutC m c 2 = m ((c : Thread nD τ).loc main_arg6) :=
  Memref.read_access_unit_zero (Elt F) main_arg6 (zero_mul_size _ _) (fun a => by fin_cases a <;> decide) _

end Staged

/-- An entry of a device's block by columns is the whole array's entry in the column that the device's columns begin at, plus its own column. -/
theorem block_cols (c : Dev nD) (w : (⟨2, ![256, 2048]⟩ : Shape).Idx → EReal) (i : Fin 256) (j : Fin 512) :
    (Layout.block ⟨2, ![256, 512]⟩ ⟨2, ![256, 2048]⟩ 1 4 c w) (ix2 i j) = w (ix2 i (⟨c.val * 512 + j.val, by have : c.val < 4 := c.isLt; omega⟩ : Fin 2048)) :=
  congrArg w (funext fun a => by fin_cases a <;> rfl)
/-- An entry of a device's block by rows is the whole array's entry in the row that the device's rows begin at, plus its own row. -/
theorem block_rows (c : Dev nD) (v : (⟨2, ![2048, 256]⟩ : Shape).Idx → EReal) (j : Fin 512) (k : Fin 256) :
    (Layout.block ⟨2, ![512, 256]⟩ ⟨2, ![2048, 256]⟩ 0 4 c v) (ix2 j k) = v (ix2 (⟨c.val * 512 + j.val, by have : c.val < 4 := c.isLt; omega⟩ : Fin 2048) k) :=
  congrArg v (funext fun a => by fin_cases a <;> rfl)

/-- From arguments that are the blocks of the reference's, the devices' results are the blocks of the reference's result. -/
theorem algebraic : Cert.algebraic_KernelIdeal_ReferenceIdeal := by
  intro m g m' g' _ hagree
  have hcut : Cut m
      (fun | 0 => m' (((0 : Dev Cert.ReferenceIdeal.nD).tc : Thread Cert.ReferenceIdeal.nD Cert.ReferenceIdeal.τ).loc Cert.ReferenceIdeal.main_arg1)
           | 1 => m' (((0 : Dev Cert.ReferenceIdeal.nD).tc : Thread Cert.ReferenceIdeal.nD Cert.ReferenceIdeal.τ).loc Cert.ReferenceIdeal.main_arg2)
           | 2 => m' (((0 : Dev Cert.ReferenceIdeal.nD).tc : Thread Cert.ReferenceIdeal.nD Cert.ReferenceIdeal.τ).loc Cert.ReferenceIdeal.main_arg3))
      (fun | 0 => m' (((0 : Dev Cert.ReferenceIdeal.nD).tc : Thread Cert.ReferenceIdeal.nD Cert.ReferenceIdeal.τ).loc Cert.ReferenceIdeal.main_arg4)
           | 1 => m' (((0 : Dev Cert.ReferenceIdeal.nD).tc : Thread Cert.ReferenceIdeal.nD Cert.ReferenceIdeal.τ).loc Cert.ReferenceIdeal.main_arg5)
           | 2 => m' (((0 : Dev Cert.ReferenceIdeal.nD).tc : Thread Cert.ReferenceIdeal.nD Cert.ReferenceIdeal.τ).loc Cert.ReferenceIdeal.main_arg6)) := by
    constructor
    · intro c l i j
      obtain ⟨_, h1, h2, h3, _⟩ := hagree c
      match l with
      | 0 => exact (congrFun ((winC_0 m c).trans h1) _).trans (block_cols c _ i j)
      | 1 => exact (congrFun ((winC_1 m c).trans h2) _).trans (block_cols c _ i j)
      | 2 => exact (congrFun ((winC_2 m c).trans h3) _).trans (block_cols c _ i j)
    · intro c l j k
      obtain ⟨_, _, _, _, h4, h5, h6⟩ := hagree c
      match l with
      | 0 => exact (congrFun ((woutC_0 m c).trans h4) _).trans (block_rows c _ j k)
      | 1 => exact (congrFun ((woutC_1 m c).trans h5) _).trans (block_rows c _ j k)
      | 2 => exact (congrFun ((woutC_2 m c).trans h6) _).trans (block_rows c _ j k)
  have hout := out_block hcut _ fun c => (xC_eq m c).trans (hagree c).1
  exact ⟨_, (run_value m g).mono fun r h c => ⟨(h.2 c).trans (hout c), h.1 c⟩,
    (θ_run Cert.ReferenceIdeal.defs _ _).mono (fun r h => h 0) (Cert.ReferenceIdeal.Value.run (F := Ideal) m' g')⟩

end Cert.Rings

end
-- ==== Proof.Same.lean ====
/-
# The program and its idealization

They are the same text: each table of bodies is the other's, so what the run of the one ends with the run of the other
does.
-/
module

public import proofs.«01_k».proof.Proof.Arrays
public import proofs.«01_k».proof.Proof.Gen.Kernel

@[expose] public section

noncomputable section

namespace Cert.Rings

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The tables of kernel bodies are equal, -/
theorem defs0_eq : Cert.Kernel.defs₀ (F := F) = Cert.KernelIdeal.defs₀ (F := F) := by
  funext p l a
  cases p with
  | tc =>
    rcases l with ⟨_ | l, h⟩
    · obtain ⟨t, s⟩ := a
      rfl
    · exact absurd h (Nat.not_lt.2 (Nat.le_add_left _ _))
  | scScalar _ => rfl
  | scVector _ _ => rfl
/-- so are the whole tables. -/
theorem defs_eq : Cert.Kernel.defs (F := F) = Cert.KernelIdeal.defs (F := F) := by
  show Pipeline.defs (Cert.Kernel.pcfgs (F := F)) Cert.Kernel.defs₀ = _
  rw [defs0_eq]
  rfl

/-- A run of the idealized program is one of the program. -/
theorem run_same {p : (c : Thread nD τ) → Prog (TpuEff nD τ sig (Elt F) (Pipeline.Sig Λ₀ (Fin 1) fun p => (pcfgs (F := F) p).Adm) c.2) PUnit}
    {s : MemSt nD τ sig (Elt F)} {Q : PUnit × MemSt nD τ sig (Elt F) → Prop}
    (h : θ_run (Cert.KernelIdeal.defs (F := F)) p s Q) : θ_run (Cert.Kernel.defs (F := F)) p s Q := by
  rw [defs_eq]; exact h

end Cert.Rings

end
-- ==== Proof.lean ====
/-
# The claims, put together

The kernel and its idealised program run to the end on four devices, keep their arguments and leave every semaphore at
zero (Proof/Launch.lean, Proof/Arrays.lean); the two are the same program (Proof/Same.lean); the reference runs to the end
and declares no semaphore; each device's result is its rows of the reference's (Proof/Agree.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import proofs.«01_k».proof.Proof.Same
public import Idealize.ShloMosaic.Adequacy
public import Idealize.ShloMosaic.Init

@[expose] public section

noncomputable section

namespace Cert.Proof

open Idealize.ShloMosaic Idealize.SL.Sem Cert.Kernel

/-- Everything claimed of the kernel, of its idealised program and of the reference. -/
theorem claim : Cert.Claim := ⟨Cert.Kernel.Gen.facts, Cert.KernelIdeal.Gen.facts, Cert.ReferenceIdeal.Gen.facts,
  fun m g _ => Cert.Rings.run_same (Cert.Rings.run_kept m g),
  fun m g _ => Cert.Rings.run_kept m g,
  fun m g _ => (θ_run Cert.ReferenceIdeal.defs _ _).mono (fun r h => ⟨fun c => (h c).2, sem_eq_zero_of_no_sems (by decide) r.2⟩) (Cert.ReferenceIdeal.Value.run (F := Ideal) m g),
  trivial,
  Cert.Rings.algebraic⟩

end Cert.Proof

end
